-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_five_separate [hPre_top_five_separate : Cert.Pre_top_five_separate.Facts] (m : (ℓ : Loc Cert.KernelIdeal.nD Cert.KernelIdeal.τ Cert.KernelIdeal.sig) → Buf (Elt Ideal) ℓ) : Prop :=
  ∀ c : Dev Cert.KernelIdeal.nD,
    (Cert.Pre_top_five_separate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_five_separate [hPre_top_five_separate : Cert.Pre_top_five_separate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_five_separate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_top_five_separate [hKernelIdeal : Cert.KernelIdeal.Facts] [hPre_top_five_separate : Cert.Pre_top_five_separate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_five_separate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_top_five_separate [hReferenceIdeal : Cert.ReferenceIdeal.Facts] [hPre_top_five_separate : Cert.Pre_top_five_separate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_five_separate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_top_five_separate [hKernelIdeal : Cert.KernelIdeal.Facts] [hReferenceIdeal : Cert.ReferenceIdeal.Facts] [hPre_top_five_separate : Cert.Pre_top_five_separate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_five_separate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_top_five_separate : Cert.Pre_top_five_separate.Facts),
    quiescent_Kernel (hKernel := hKernel)
    ∧ quiescent_KernelIdeal (hKernelIdeal := hKernelIdeal)
    ∧ quiescent_KernelIdeal_pre_top_five_separate (hKernelIdeal := hKernelIdeal) (hPre_top_five_separate := hPre_top_five_separate)
    ∧ quiescent_ReferenceIdeal (hReferenceIdeal := hReferenceIdeal)
    ∧ quiescent_ReferenceIdeal_pre_top_five_separate (hReferenceIdeal := hReferenceIdeal) (hPre_top_five_separate := hPre_top_five_separate)
    ∧ preserves_Kernel_KernelIdeal
    ∧ algebraic_KernelIdeal_ReferenceIdeal_pre_top_five_separate (hKernelIdeal := hKernelIdeal) (hReferenceIdeal := hReferenceIdeal) (hPre_top_five_separate := hPre_top_five_separate)
-- ==== Pre_top_five_separate.lean ====
abbrev S2x96x384x384 : Shape := ⟨4, ![2, 96, 384, 384]⟩
abbrev S64x96x3x3 : Shape := ⟨4, ![64, 96, 3, 3]⟩
abbrev S64 : Shape := ⟨1, ![64]⟩
abbrev S64x64x3x3 : Shape := ⟨4, ![64, 64, 3, 3]⟩
abbrev S96x64x1x1 : Shape := ⟨4, ![96, 64, 1, 1]⟩
abbrev S96 : Shape := ⟨1, ![96]⟩
abbrev S_ : Shape := ⟨0, ![]⟩
abbrev S2x96x386x386 : Shape := ⟨4, ![2, 96, 386, 386]⟩
abbrev S64x96x1x1 : Shape := ⟨4, ![64, 96, 1, 1]⟩
abbrev S64x96 : Shape := ⟨2, ![64, 96]⟩
abbrev S2x384x384x64 : Shape := ⟨4, ![2, 384, 384, 64]⟩
abbrev S2x64x384x384 : Shape := ⟨4, ![2, 64, 384, 384]⟩
abbrev S1x64x1x1 : Shape := ⟨4, ![1, 64, 1, 1]⟩
abbrev S2x64x386x386 : Shape := ⟨4, ![2, 64, 386, 386]⟩
abbrev S64x64x1x1 : Shape := ⟨4, ![64, 64, 1, 1]⟩
abbrev S64x64 : Shape := ⟨2, ![64, 64]⟩
abbrev S96x64 : Shape := ⟨2, ![96, 64]⟩
abbrev S2x384x384x96 : Shape := ⟨4, ![2, 384, 384, 96]⟩
abbrev S1x96x1x1 : Shape := ⟨4, ![1, 96, 1, 1]⟩
abbrev S2x384x384x5 : Shape := ⟨4, ![2, 384, 384, 5]⟩
abbrev S2x384x384x4 : Shape := ⟨4, ![2, 384, 384, 4]⟩
abbrev S2x384x384x1 : Shape := ⟨4, ![2, 384, 384, 1]⟩

class Facts : Prop where
  pads_S2x96x384x384_S2x96x386x386_000_000_110_110 : S2x96x384x384.Pads (![0, 0, 1, 1] : Fin 4 → Nat) ![0, 0, 1, 1] ![0, 0, 0, 0] S2x96x386x386
  h_S_ : 0 < S_.numel
  slices_S64x96x3x3_S64x96x1x1_0_0_0_0 : S64x96x3x3.Slices ![0, 0, 0, 0] S64x96x1x1
  shapeCasts_S64x96x1x1_S64x96 : S64x96x1x1.ShapeCasts S64x96
  slices_S2x96x386x386_S2x96x384x384_0_0_0_0 : S2x96x386x386.Slices ![0, 0, 0, 0] S2x96x384x384
  transposes_S2x384x384x64_S2x64x384x384_0_3_1_2 : S2x384x384x64.Transposes [0, 3, 1, 2] S2x64x384x384
  slices_S64x96x3x3_S64x96x1x1_0_0_0_1 : S64x96x3x3.Slices ![0, 0, 0, 1] S64x96x1x1
  slices_S2x96x386x386_S2x96x384x384_0_0_0_1 : S2x96x386x386.Slices ![0, 0, 0, 1] S2x96x384x384
  slices_S64x96x3x3_S64x96x1x1_0_0_0_2 : S64x96x3x3.Slices ![0, 0, 0, 2] S64x96x1x1
  slices_S2x96x386x386_S2x96x384x384_0_0_0_2 : S2x96x386x386.Slices ![0, 0, 0, 2] S2x96x384x384
  slices_S64x96x3x3_S64x96x1x1_0_0_1_0 : S64x96x3x3.Slices ![0, 0, 1, 0] S64x96x1x1
  slices_S2x96x386x386_S2x96x384x384_0_0_1_0 : S2x96x386x386.Slices ![0, 0, 1, 0] S2x96x384x384
  slices_S64x96x3x3_S64x96x1x1_0_0_1_1 : S64x96x3x3.Slices ![0, 0, 1, 1] S64x96x1x1
  slices_S2x96x386x386_S2x96x384x384_0_0_1_1 : S2x96x386x386.Slices ![0, 0, 1, 1] S2x96x384x384
  slices_S64x96x3x3_S64x96x1x1_0_0_1_2 : S64x96x3x3.Slices ![0, 0, 1, 2] S64x96x1x1
  slices_S2x96x386x386_S2x96x384x384_0_0_1_2 : S2x96x386x386.Slices ![0, 0, 1, 2] S2x96x384x384
  slices_S64x96x3x3_S64x96x1x1_0_0_2_0 : S64x96x3x3.Slices ![0, 0, 2, 0] S64x96x1x1
  slices_S2x96x386x386_S2x96x384x384_0_0_2_0 : S2x96x386x386.Slices ![0, 0, 2, 0] S2x96x384x384
  slices_S64x96x3x3_S64x96x1x1_0_0_2_1 : S64x96x3x3.Slices ![0, 0, 2, 1] S64x96x1x1
  slices_S2x96x386x386_S2x96x384x384_0_0_2_1 : S2x96x386x386.Slices ![0, 0, 2, 1] S2x96x384x384
  slices_S64x96x3x3_S64x96x1x1_0_0_2_2 : S64x96x3x3.Slices ![0, 0, 2, 2] S64x96x1x1
  slices_S2x96x386x386_S2x96x384x384_0_0_2_2 : S2x96x386x386.Slices ![0, 0, 2, 2] S2x96x384x384
  bcast_S64_S1x64x1x1_1 : S64.BroadcastsInDim S1x64x1x1 (![1] : Fin 1 → Fin S1x64x1x1.rank)
  bcast_S1x64x1x1_S2x64x384x384_0_1_2_3 : S1x64x1x1.BroadcastsInDim S2x64x384x384 (![0, 1, 2, 3] : Fin 4 → Fin S2x64x384x384.rank)
  bcast_S_S2x64x384x384 : S_.BroadcastsInDim S2x64x384x384 (![] : Fin 0 → Fin S2x64x384x384.rank)
  pads_S2x64x384x384_S2x64x386x386_000_000_110_110 : S2x64x384x384.Pads (![0, 0, 1, 1] : Fin 4 → Nat) ![0, 0, 1, 1] ![0, 0, 0, 0] S2x64x386x386
  slices_S64x64x3x3_S64x64x1x1_0_0_0_0 : S64x64x3x3.Slices ![0, 0, 0, 0] S64x64x1x1
  shapeCasts_S64x64x1x1_S64x64 : S64x64x1x1.ShapeCasts S64x64
  slices_S2x64x386x386_S2x64x384x384_0_0_0_0 : S2x64x386x386.Slices ![0, 0, 0, 0] S2x64x384x384
  slices_S64x64x3x3_S64x64x1x1_0_0_0_1 : S64x64x3x3.Slices ![0, 0, 0, 1] S64x64x1x1
  slices_S2x64x386x386_S2x64x384x384_0_0_0_1 : S2x64x386x386.Slices ![0, 0, 0, 1] S2x64x384x384
  slices_S64x64x3x3_S64x64x1x1_0_0_0_2 : S64x64x3x3.Slices ![0, 0, 0, 2] S64x64x1x1
  slices_S2x64x386x386_S2x64x384x384_0_0_0_2 : S2x64x386x386.Slices ![0, 0, 0, 2] S2x64x384x384
  slices_S64x64x3x3_S64x64x1x1_0_0_1_0 : S64x64x3x3.Slices ![0, 0, 1, 0] S64x64x1x1
  slices_S2x64x386x386_S2x64x384x384_0_0_1_0 : S2x64x386x386.Slices ![0, 0, 1, 0] S2x64x384x384
  slices_S64x64x3x3_S64x64x1x1_0_0_1_1 : S64x64x3x3.Slices ![0, 0, 1, 1] S64x64x1x1
  slices_S2x64x386x386_S2x64x384x384_0_0_1_1 : S2x64x386x386.Slices ![0, 0, 1, 1] S2x64x384x384
  slices_S64x64x3x3_S64x64x1x1_0_0_1_2 : S64x64x3x3.Slices ![0, 0, 1, 2] S64x64x1x1
  slices_S2x64x386x386_S2x64x384x384_0_0_1_2 : S2x64x386x386.Slices ![0, 0, 1, 2] S2x64x384x384
  slices_S64x64x3x3_S64x64x1x1_0_0_2_0 : S64x64x3x3.Slices ![0, 0, 2, 0] S64x64x1x1
  slices_S2x64x386x386_S2x64x384x384_0_0_2_0 : S2x64x386x386.Slices ![0, 0, 2, 0] S2x64x384x384
  slices_S64x64x3x3_S64x64x1x1_0_0_2_1 : S64x64x3x3.Slices ![0, 0, 2, 1] S64x64x1x1
  slices_S2x64x386x386_S2x64x384x384_0_0_2_1 : S2x64x386x386.Slices ![0, 0, 2, 1] S2x64x384x384
  slices_S64x64x3x3_S64x64x1x1_0_0_2_2 : S64x64x3x3.Slices ![0, 0, 2, 2] S64x64x1x1
  slices_S2x64x386x386_S2x64x384x384_0_0_2_2 : S2x64x386x386.Slices ![0, 0, 2, 2] S2x64x384x384
  shapeCasts_S96x64x1x1_S96x64 : S96x64x1x1.ShapeCasts S96x64
  transposes_S2x384x384x96_S2x96x384x384_0_3_1_2 : S2x384x384x96.Transposes [0, 3, 1, 2] S2x96x384x384
  bcast_S96_S1x96x1x1_1 : S96.BroadcastsInDim S1x96x1x1 (![1] : Fin 1 → Fin S1x96x1x1.rank)
  bcast_S1x96x1x1_S2x96x384x384_0_1_2_3 : S1x96x1x1.BroadcastsInDim S2x96x384x384 (![0, 1, 2, 3] : Fin 4 → Fin S2x96x384x384.rank)
  transposes_S2x96x384x384_S2x384x384x96_0_2_3_1 : S2x96x384x384.Transposes [0, 2, 3, 1] S2x384x384x96
  sliceFits_S2x384x384x96_S2x384x384x5 : S2x384x384x96.Slices (fun _ => 0) S2x384x384x5
  slices_S2x384x384x5_S2x384x384x4_0_0_0_0 : S2x384x384x5.Slices ![0, 0, 0, 0] S2x384x384x4
  slices_S2x384x384x5_S2x384x384x4_0_0_0_1 : S2x384x384x5.Slices ![0, 0, 0, 1] S2x384x384x4
  slices_S2x384x384x5_S2x384x384x1_0_0_0_0 : S2x384x384x5.Slices ![0, 0, 0, 0] S2x384x384x1
  bcast_S_S2x384x384x1 : S_.BroadcastsInDim S2x384x384x1 (![] : Fin 0 → Fin S2x384x384x1.rank)
  bcast_S2x384x384x1_S2x384x384x4_0_1_2_3 : S2x384x384x1.BroadcastsInDim S2x384x384x4 (![0, 1, 2, 3] : Fin 4 → Fin S2x384x384x4.rank)
  dot_S2x96x384x384_S64x96_S2x384x384x64_1_1_023_0_n_n_wf : DotDims.WF S2x96x384x384 S64x96 S2x384x384x64 [1] [1] [0, 2, 3] [0] [] []
  dot_S2x64x384x384_S64x64_S2x384x384x64_1_1_023_0_n_n_wf : DotDims.WF S2x64x384x384 S64x64 S2x384x384x64 [1] [1] [0, 2, 3] [0] [] []
  dot_S2x64x384x384_S96x64_S2x384x384x96_1_1_023_0_n_n_wf : DotDims.WF S2x64x384x384 S96x64 S2x384x384x96 [1] [1] [0, 2, 3] [0] [] []

variable [Facts]

def dot_S2x96x384x384_S64x96_S2x384x384x64_1_1_023_0_n_n : DotDims S2x96x384x384 S64x96 S2x384x384x64 where
  lhsContracting := [1]
  rhsContracting := [1]
  lhsNonContracting := [0, 2, 3]
  rhsNonContracting := [0]
  lhsBatch := []
  rhsBatch := []
  wf := dot_S2x96x384x384_S64x96_S2x384x384x64_1_1_023_0_n_n_wf
def dot_S2x64x384x384_S64x64_S2x384x384x64_1_1_023_0_n_n : DotDims S2x64x384x384 S64x64 S2x384x384x64 where
  lhsContracting := [1]
  rhsContracting := [1]
  lhsNonContracting := [0, 2, 3]
  rhsNonContracting := [0]
  lhsBatch := []
  rhsBatch := []
  wf := dot_S2x64x384x384_S64x64_S2x384x384x64_1_1_023_0_n_n_wf
def dot_S2x64x384x384_S96x64_S2x384x384x96_1_1_023_0_n_n : DotDims S2x64x384x384 S96x64 S2x384x384x96 where
  lhsContracting := [1]
  rhsContracting := [1]
  lhsNonContracting := [0, 2, 3]
  rhsNonContracting := [0]
  lhsBatch := []
  rhsBatch := []
  wf := dot_S2x64x384x384_S96x64_S2x384x384x96_1_1_023_0_n_n_wf
def fn_part5 {F : FTy → Type} [FloatOps F] (main_arg5 : FVec F S96x64x1x1 .f32) (main_arg6 : FVec F S96 .f32) (main_v115 : FVec F S2x64x384x384 .f32) (main_cst_2 : FVec F S_ .f32) : IVec S2x384x384x4 1 :=
  let main_v116 : FVec F S2x64x384x384 .f32 := broadcastInDim S2x64x384x384 ![] bcast_S_S2x64x384x384 main_cst_2
  let main_v117 : FVec F S2x64x384x384 .f32 := maximumf main_v115 main_v116
  let main_v118 : FVec F S96x64 .f32 := shapeCast S96x64 main_arg5 shapeCasts_S96x64x1x1_S96x64
  let main_v119 : FVec F S2x384x384x96 .f32 := (fun l r => Host.dotGeneral dot_S2x64x384x384_S96x64_S2x384x384x96_1_1_023_0_n_n none l r) main_v117 main_v118
  let main_v120 : FVec F S2x96x384x384 .f32 := (transpose S2x96x384x384 [0, 3, 1, 2] · transposes_S2x384x384x96_S2x96x384x384_0_3_1_2) main_v119
  let main_v121 : FVec F S1x96x1x1 .f32 := broadcastInDim S1x96x1x1 ![1] bcast_S96_S1x96x1x1_1 main_arg6
  let main_v122 : FVec F S2x96x384x384 .f32 := broadcastInDim S2x96x384x384 ![0, 1, 2, 3] bcast_S1x96x1x1_S2x96x384x384_0_1_2_3 main_v121
  let main_v123 : FVec F S2x96x384x384 .f32 := addf main_v120 main_v122
  let main_v124 : FVec F S2x384x384x96 .f32 := (transpose S2x384x384x96 [0, 2, 3, 1] · transposes_S2x96x384x384_S2x384x384x96_0_2_3_1) main_v123
  let main_values : FVec F S2x384x384x5 .f32 := (fun x => (Host.topK S2x384x384x5 3 (FloatOps.cmpfTotal .gt) x sliceFits_S2x384x384x96_S2x384x384x5).1) main_v124
  let main_indices : IVec S2x384x384x5 32 := (fun x => (Host.topK S2x384x384x5 3 (FloatOps.cmpfTotal .gt) x sliceFits_S2x384x384x96_S2x384x384x5).2) main_v124
  let main_v125 : FVec F S2x384x384x4 .f32 := (extractStridedSlice S2x384x384x4 ![0, 0, 0, 0] · slices_S2x384x384x5_S2x384x384x4_0_0_0_0) main_values
  let main_v126 : FVec F S2x384x384x4 .f32 := (extractStridedSlice S2x384x384x4 ![0, 0, 0, 1] · slices_S2x384x384x5_S2x384x384x4_0_0_0_1) main_values
  let main_v127 : IVec S2x384x384x4 1 := cmpf .ogt main_v125 main_v126
  let main_v128 : FVec F S2x384x384x1 .f32 := (extractStridedSlice S2x384x384x1 ![0, 0, 0, 0] · slices_S2x384x384x5_S2x384x384x1_0_0_0_0) main_values
  let main_cst_3 : FVec F S_ .f32 := constant S_ .f32 0x7F800000#32
  let main_v129 : FVec F S2x384x384x1 .f32 := broadcastInDim S2x384x384x1 ![] bcast_S_S2x384x384x1 main_cst_3
  let main_v130 : IVec S2x384x384x1 1 := cmpf .olt main_v128 main_v129
  let main_v131 : IVec S2x384x384x4 1 := broadcastInDim S2x384x384x4 ![0, 1, 2, 3] bcast_S2x384x384x1_S2x384x384x4_0_1_2_3 main_v130
  let main_v132 : IVec S2x384x384x4 1 := andi main_v127 main_v131
  main_v132

def fn_part4 {F : FTy → Type} [FloatOps F] (main_arg3 : FVec F S64x64x3x3 .f32) (main_arg4 : FVec F S64 .f32) (main_arg5 : FVec F S96x64x1x1 .f32) (main_arg6 : FVec F S96 .f32) (main_v59 : FVec F S2x64x386x386 .f32) (main_v88 : FVec F S2x64x384x384 .f32) (main_v92 : FVec F S2x384x384x64 .f32) : IVec S2x384x384x4 1 :=
  let main_v93 : FVec F S2x64x384x384 .f32 := (transpose S2x64x384x384 [0, 3, 1, 2] · transposes_S2x384x384x64_S2x64x384x384_0_3_1_2) main_v92
  let main_v94 : FVec F S2x64x384x384 .f32 := addf main_v88 main_v93
  let main_v95 : FVec F S64x64x1x1 .f32 := (extractStridedSlice S64x64x1x1 ![0, 0, 2, 0] · slices_S64x64x3x3_S64x64x1x1_0_0_2_0) main_arg3
  let main_v96 : FVec F S64x64 .f32 := shapeCast S64x64 main_v95 shapeCasts_S64x64x1x1_S64x64
  let main_v97 : FVec F S2x64x384x384 .f32 := (extractStridedSlice S2x64x384x384 ![0, 0, 2, 0] · slices_S2x64x386x386_S2x64x384x384_0_0_2_0) main_v59
  let main_v98 : FVec F S2x384x384x64 .f32 := (fun l r => Host.dotGeneral dot_S2x64x384x384_S64x64_S2x384x384x64_1_1_023_0_n_n none l r) main_v97 main_v96
  let main_v99 : FVec F S2x64x384x384 .f32 := (transpose S2x64x384x384 [0, 3, 1, 2] · transposes_S2x384x384x64_S2x64x384x384_0_3_1_2) main_v98
  let main_v100 : FVec F S2x64x384x384 .f32 := addf main_v94 main_v99
  let main_v101 : FVec F S64x64x1x1 .f32 := (extractStridedSlice S64x64x1x1 ![0, 0, 2, 1] · slices_S64x64x3x3_S64x64x1x1_0_0_2_1) main_arg3
  let main_v102 : FVec F S64x64 .f32 := shapeCast S64x64 main_v101 shapeCasts_S64x64x1x1_S64x64
  let main_v103 : FVec F S2x64x384x384 .f32 := (extractStridedSlice S2x64x384x384 ![0, 0, 2, 1] · slices_S2x64x386x386_S2x64x384x384_0_0_2_1) main_v59
  let main_v104 : FVec F S2x384x384x64 .f32 := (fun l r => Host.dotGeneral dot_S2x64x384x384_S64x64_S2x384x384x64_1_1_023_0_n_n none l r) main_v103 main_v102
  let main_v105 : FVec F S2x64x384x384 .f32 := (transpose S2x64x384x384 [0, 3, 1, 2] · transposes_S2x384x384x64_S2x64x384x384_0_3_1_2) main_v104
  let main_v106 : FVec F S2x64x384x384 .f32 := addf main_v100 main_v105
  let main_v107 : FVec F S64x64x1x1 .f32 := (extractStridedSlice S64x64x1x1 ![0, 0, 2, 2] · slices_S64x64x3x3_S64x64x1x1_0_0_2_2) main_arg3
  let main_v108 : FVec F S64x64 .f32 := shapeCast S64x64 main_v107 shapeCasts_S64x64x1x1_S64x64
  let main_v109 : FVec F S2x64x384x384 .f32 := (extractStridedSlice S2x64x384x384 ![0, 0, 2, 2] · slices_S2x64x386x386_S2x64x384x384_0_0_2_2) main_v59
  let main_v110 : FVec F S2x384x384x64 .f32 := (fun l r => Host.dotGeneral dot_S2x64x384x384_S64x64_S2x384x384x64_1_1_023_0_n_n none l r) main_v109 main_v108
  let main_v111 : FVec F S2x64x384x384 .f32 := (transpose S2x64x384x384 [0, 3, 1, 2] · transposes_S2x384x384x64_S2x64x384x384_0_3_1_2) main_v110
  let main_v112 : FVec F S2x64x384x384 .f32 := addf main_v106 main_v111
  let main_v113 : FVec F S1x64x1x1 .f32 := broadcastInDim S1x64x1x1 ![1] bcast_S64_S1x64x1x1_1 main_arg4
  let main_v114 : FVec F S2x64x384x384 .f32 := broadcastInDim S2x64x384x384 ![0, 1, 2, 3] bcast_S1x64x1x1_S2x64x384x384_0_1_2_3 main_v113
  let main_v115 : FVec F S2x64x384x384 .f32 := addf main_v112 main_v114
  let main_cst_2 : FVec F S_ .f32 := constant S_ .f32 0x00000000#32
  fn_part5 (F := F) main_arg5 main_arg6 main_v115 main_cst_2

def fn_part3 {F : FTy → Type} [FloatOps F] (main_arg3 : FVec F S64x64x3x3 .f32) (main_arg4 : FVec F S64 .f32) (main_arg5 : FVec F S96x64x1x1 .f32) (main_arg6 : FVec F S96 .f32) (main_v59 : FVec F S2x64x386x386 .f32) (main_v64 : FVec F S2x64x384x384 .f32) (main_v68 : FVec F S2x384x384x64 .f32) : IVec S2x384x384x4 1 :=
  let main_v69 : FVec F S2x64x384x384 .f32 := (transpose S2x64x384x384 [0, 3, 1, 2] · transposes_S2x384x384x64_S2x64x384x384_0_3_1_2) main_v68
  let main_v70 : FVec F S2x64x384x384 .f32 := addf main_v64 main_v69
  let main_v71 : FVec F S64x64x1x1 .f32 := (extractStridedSlice S64x64x1x1 ![0, 0, 0, 2] · slices_S64x64x3x3_S64x64x1x1_0_0_0_2) main_arg3
  let main_v72 : FVec F S64x64 .f32 := shapeCast S64x64 main_v71 shapeCasts_S64x64x1x1_S64x64
  let main_v73 : FVec F S2x64x384x384 .f32 := (extractStridedSlice S2x64x384x384 ![0, 0, 0, 2] · slices_S2x64x386x386_S2x64x384x384_0_0_0_2) main_v59
  let main_v74 : FVec F S2x384x384x64 .f32 := (fun l r => Host.dotGeneral dot_S2x64x384x384_S64x64_S2x384x384x64_1_1_023_0_n_n none l r) main_v73 main_v72
  let main_v75 : FVec F S2x64x384x384 .f32 := (transpose S2x64x384x384 [0, 3, 1, 2] · transposes_S2x384x384x64_S2x64x384x384_0_3_1_2) main_v74
  let main_v76 : FVec F S2x64x384x384 .f32 := addf main_v70 main_v75
  let main_v77 : FVec F S64x64x1x1 .f32 := (extractStridedSlice S64x64x1x1 ![0, 0, 1, 0] · slices_S64x64x3x3_S64x64x1x1_0_0_1_0) main_arg3
  let main_v78 : FVec F S64x64 .f32 := shapeCast S64x64 main_v77 shapeCasts_S64x64x1x1_S64x64
  let main_v79 : FVec F S2x64x384x384 .f32 := (extractStridedSlice S2x64x384x384 ![0, 0, 1, 0] · slices_S2x64x386x386_S2x64x384x384_0_0_1_0) main_v59
  let main_v80 : FVec F S2x384x384x64 .f32 := (fun l r => Host.dotGeneral dot_S2x64x384x384_S64x64_S2x384x384x64_1_1_023_0_n_n none l r) main_v79 main_v78
  let main_v81 : FVec F S2x64x384x384 .f32 := (transpose S2x64x384x384 [0, 3, 1, 2] · transposes_S2x384x384x64_S2x64x384x384_0_3_1_2) main_v80
  let main_v82 : FVec F S2x64x384x384 .f32 := addf main_v76 main_v81
  let main_v83 : FVec F S64x64x1x1 .f32 := (extractStridedSlice S64x64x1x1 ![0, 0, 1, 1] · slices_S64x64x3x3_S64x64x1x1_0_0_1_1) main_arg3
  let main_v84 : FVec F S64x64 .f32 := shapeCast S64x64 main_v83 shapeCasts_S64x64x1x1_S64x64
  let main_v85 : FVec F S2x64x384x384 .f32 := (extractStridedSlice S2x64x384x384 ![0, 0, 1, 1] · slices_S2x64x386x386_S2x64x384x384_0_0_1_1) main_v59
  let main_v86 : FVec F S2x384x384x64 .f32 := (fun l r => Host.dotGeneral dot_S2x64x384x384_S64x64_S2x384x384x64_1_1_023_0_n_n none l r) main_v85 main_v84
  let main_v87 : FVec F S2x64x384x384 .f32 := (transpose S2x64x384x384 [0, 3, 1, 2] · transposes_S2x384x384x64_S2x64x384x384_0_3_1_2) main_v86
  let main_v88 : FVec F S2x64x384x384 .f32 := addf main_v82 main_v87
  let main_v89 : FVec F S64x64x1x1 .f32 := (extractStridedSlice S64x64x1x1 ![0, 0, 1, 2] · slices_S64x64x3x3_S64x64x1x1_0_0_1_2) main_arg3
  let main_v90 : FVec F S64x64 .f32 := shapeCast S64x64 main_v89 shapeCasts_S64x64x1x1_S64x64
  let main_v91 : FVec F S2x64x384x384 .f32 := (extractStridedSlice S2x64x384x384 ![0, 0, 1, 2] · slices_S2x64x386x386_S2x64x384x384_0_0_1_2) main_v59
  let main_v92 : FVec F S2x384x384x64 .f32 := (fun l r => Host.dotGeneral dot_S2x64x384x384_S64x64_S2x384x384x64_1_1_023_0_n_n none l r) main_v91 main_v90
  fn_part4 (F := F) main_arg3 main_arg4 main_arg5 main_arg6 main_v59 main_v88 main_v92

def fn_part2 {F : FTy → Type} [FloatOps F] (main_arg1 : FVec F S64x96x3x3 .f32) (main_arg2 : FVec F S64 .f32) (main_arg3 : FVec F S64x64x3x3 .f32) (main_arg4 : FVec F S64 .f32) (main_arg5 : FVec F S96x64x1x1 .f32) (main_arg6 : FVec F S96 .f32) (main_v0 : FVec F S2x96x386x386 .f32) (main_v41 : FVec F S2x64x384x384 .f32) (main_v46 : FVec F S2x64x384x384 .f32) : IVec S2x384x384x4 1 :=
  let main_v47 : FVec F S2x64x384x384 .f32 := addf main_v41 main_v46
  let main_v48 : FVec F S64x96x1x1 .f32 := (extractStridedSlice S64x96x1x1 ![0, 0, 2, 2] · slices_S64x96x3x3_S64x96x1x1_0_0_2_2) main_arg1
  let main_v49 : FVec F S64x96 .f32 := shapeCast S64x96 main_v48 shapeCasts_S64x96x1x1_S64x96
  let main_v50 : FVec F S2x96x384x384 .f32 := (extractStridedSlice S2x96x384x384 ![0, 0, 2, 2] · slices_S2x96x386x386_S2x96x384x384_0_0_2_2) main_v0
  let main_v51 : FVec F S2x384x384x64 .f32 := (fun l r => Host.dotGeneral dot_S2x96x384x384_S64x96_S2x384x384x64_1_1_023_0_n_n none l r) main_v50 main_v49
  let main_v52 : FVec F S2x64x384x384 .f32 := (transpose S2x64x384x384 [0, 3, 1, 2] · transposes_S2x384x384x64_S2x64x384x384_0_3_1_2) main_v51
  let main_v53 : FVec F S2x64x384x384 .f32 := addf main_v47 main_v52
  let main_v54 : FVec F S1x64x1x1 .f32 := broadcastInDim S1x64x1x1 ![1] bcast_S64_S1x64x1x1_1 main_arg2
  let main_v55 : FVec F S2x64x384x384 .f32 := broadcastInDim S2x64x384x384 ![0, 1, 2, 3] bcast_S1x64x1x1_S2x64x384x384_0_1_2_3 main_v54
  let main_v56 : FVec F S2x64x384x384 .f32 := addf main_v53 main_v55
  let main_cst_0 : FVec F S_ .f32 := constant S_ .f32 0x00000000#32
  let main_v57 : FVec F S2x64x384x384 .f32 := broadcastInDim S2x64x384x384 ![] bcast_S_S2x64x384x384 main_cst_0
  let main_v58 : FVec F S2x64x384x384 .f32 := maximumf main_v56 main_v57
  let main_cst_1 : FVec F S_ .f32 := constant S_ .f32 0x00000000#32
  let main_v59 : FVec F S2x64x386x386 .f32 := (fun x v => pad S2x64x386x386 ![0, 0, 1, 1] ![0, 0, 1, 1] ![0, 0, 0, 0] x v pads_S2x64x384x384_S2x64x386x386_000_000_110_110 h_S_) main_v58 main_cst_1
  let main_v60 : FVec F S64x64x1x1 .f32 := (extractStridedSlice S64x64x1x1 ![0, 0, 0, 0] · slices_S64x64x3x3_S64x64x1x1_0_0_0_0) main_arg3
  let main_v61 : FVec F S64x64 .f32 := shapeCast S64x64 main_v60 shapeCasts_S64x64x1x1_S64x64
  let main_v62 : FVec F S2x64x384x384 .f32 := (extractStridedSlice S2x64x384x384 ![0, 0, 0, 0] · slices_S2x64x386x386_S2x64x384x384_0_0_0_0) main_v59
  let main_v63 : FVec F S2x384x384x64 .f32 := (fun l r => Host.dotGeneral dot_S2x64x384x384_S64x64_S2x384x384x64_1_1_023_0_n_n none l r) main_v62 main_v61
  let main_v64 : FVec F S2x64x384x384 .f32 := (transpose S2x64x384x384 [0, 3, 1, 2] · transposes_S2x384x384x64_S2x64x384x384_0_3_1_2) main_v63
  let main_v65 : FVec F S64x64x1x1 .f32 := (extractStridedSlice S64x64x1x1 ![0, 0, 0, 1] · slices_S64x64x3x3_S64x64x1x1_0_0_0_1) main_arg3
  let main_v66 : FVec F S64x64 .f32 := shapeCast S64x64 main_v65 shapeCasts_S64x64x1x1_S64x64
  let main_v67 : FVec F S2x64x384x384 .f32 := (extractStridedSlice S2x64x384x384 ![0, 0, 0, 1] · slices_S2x64x386x386_S2x64x384x384_0_0_0_1) main_v59
  let main_v68 : FVec F S2x384x384x64 .f32 := (fun l r => Host.dotGeneral dot_S2x64x384x384_S64x64_S2x384x384x64_1_1_023_0_n_n none l r) main_v67 main_v66
  fn_part3 (F := F) main_arg3 main_arg4 main_arg5 main_arg6 main_v59 main_v64 main_v68

def fn_part1 {F : FTy → Type} [FloatOps F] (main_arg1 : FVec F S64x96x3x3 .f32) (main_arg2 : FVec F S64 .f32) (main_arg3 : FVec F S64x64x3x3 .f32) (main_arg4 : FVec F S64 .f32) (main_arg5 : FVec F S96x64x1x1 .f32) (main_arg6 : FVec F S96 .f32) (main_v0 : FVec F S2x96x386x386 .f32) (main_v17 : FVec F S2x64x384x384 .f32) (main_v22 : FVec F S2x64x384x384 .f32) : IVec S2x384x384x4 1 :=
  let main_v23 : FVec F S2x64x384x384 .f32 := addf main_v17 main_v22
  let main_v24 : FVec F S64x96x1x1 .f32 := (extractStridedSlice S64x96x1x1 ![0, 0, 1, 1] · slices_S64x96x3x3_S64x96x1x1_0_0_1_1) main_arg1
  let main_v25 : FVec F S64x96 .f32 := shapeCast S64x96 main_v24 shapeCasts_S64x96x1x1_S64x96
  let main_v26 : FVec F S2x96x384x384 .f32 := (extractStridedSlice S2x96x384x384 ![0, 0, 1, 1] · slices_S2x96x386x386_S2x96x384x384_0_0_1_1) main_v0
  let main_v27 : FVec F S2x384x384x64 .f32 := (fun l r => Host.dotGeneral dot_S2x96x384x384_S64x96_S2x384x384x64_1_1_023_0_n_n none l r) main_v26 main_v25
  let main_v28 : FVec F S2x64x384x384 .f32 := (transpose S2x64x384x384 [0, 3, 1, 2] · transposes_S2x384x384x64_S2x64x384x384_0_3_1_2) main_v27
  let main_v29 : FVec F S2x64x384x384 .f32 := addf main_v23 main_v28
  let main_v30 : FVec F S64x96x1x1 .f32 := (extractStridedSlice S64x96x1x1 ![0, 0, 1, 2] · slices_S64x96x3x3_S64x96x1x1_0_0_1_2) main_arg1
  let main_v31 : FVec F S64x96 .f32 := shapeCast S64x96 main_v30 shapeCasts_S64x96x1x1_S64x96
  let main_v32 : FVec F S2x96x384x384 .f32 := (extractStridedSlice S2x96x384x384 ![0, 0, 1, 2] · slices_S2x96x386x386_S2x96x384x384_0_0_1_2) main_v0
  let main_v33 : FVec F S2x384x384x64 .f32 := (fun l r => Host.dotGeneral dot_S2x96x384x384_S64x96_S2x384x384x64_1_1_023_0_n_n none l r) main_v32 main_v31
  let main_v34 : FVec F S2x64x384x384 .f32 := (transpose S2x64x384x384 [0, 3, 1, 2] · transposes_S2x384x384x64_S2x64x384x384_0_3_1_2) main_v33
  let main_v35 : FVec F S2x64x384x384 .f32 := addf main_v29 main_v34
  let main_v36 : FVec F S64x96x1x1 .f32 := (extractStridedSlice S64x96x1x1 ![0, 0, 2, 0] · slices_S64x96x3x3_S64x96x1x1_0_0_2_0) main_arg1
  let main_v37 : FVec F S64x96 .f32 := shapeCast S64x96 main_v36 shapeCasts_S64x96x1x1_S64x96
  let main_v38 : FVec F S2x96x384x384 .f32 := (extractStridedSlice S2x96x384x384 ![0, 0, 2, 0] · slices_S2x96x386x386_S2x96x384x384_0_0_2_0) main_v0
  let main_v39 : FVec F S2x384x384x64 .f32 := (fun l r => Host.dotGeneral dot_S2x96x384x384_S64x96_S2x384x384x64_1_1_023_0_n_n none l r) main_v38 main_v37
  let main_v40 : FVec F S2x64x384x384 .f32 := (transpose S2x64x384x384 [0, 3, 1, 2] · transposes_S2x384x384x64_S2x64x384x384_0_3_1_2) main_v39
  let main_v41 : FVec F S2x64x384x384 .f32 := addf main_v35 main_v40
  let main_v42 : FVec F S64x96x1x1 .f32 := (extractStridedSlice S64x96x1x1 ![0, 0, 2, 1] · slices_S64x96x3x3_S64x96x1x1_0_0_2_1) main_arg1
  let main_v43 : FVec F S64x96 .f32 := shapeCast S64x96 main_v42 shapeCasts_S64x96x1x1_S64x96
  let main_v44 : FVec F S2x96x384x384 .f32 := (extractStridedSlice S2x96x384x384 ![0, 0, 2, 1] · slices_S2x96x386x386_S2x96x384x384_0_0_2_1) main_v0
  let main_v45 : FVec F S2x384x384x64 .f32 := (fun l r => Host.dotGeneral dot_S2x96x384x384_S64x96_S2x384x384x64_1_1_023_0_n_n none l r) main_v44 main_v43
  let main_v46 : FVec F S2x64x384x384 .f32 := (transpose S2x64x384x384 [0, 3, 1, 2] · transposes_S2x384x384x64_S2x64x384x384_0_3_1_2) main_v45
  fn_part2 (F := F) main_arg1 main_arg2 main_arg3 main_arg4 main_arg5 main_arg6 main_v0 main_v41 main_v46

def fn {F : FTy → Type} [FloatOps F] (main_arg0 : FVec F S2x96x384x384 .f32) (main_arg1 : FVec F S64x96x3x3 .f32) (main_arg2 : FVec F S64 .f32) (main_arg3 : FVec F S64x64x3x3 .f32) (main_arg4 : FVec F S64 .f32) (main_arg5 : FVec F S96x64x1x1 .f32) (main_arg6 : FVec F S96 .f32) : IVec S2x384x384x4 1 :=
  let main_cst : FVec F S_ .f32 := constant S_ .f32 0x00000000#32
  let main_v0 : FVec F S2x96x386x386 .f32 := (fun x v => pad S2x96x386x386 ![0, 0, 1, 1] ![0, 0, 1, 1] ![0, 0, 0, 0] x v pads_S2x96x384x384_S2x96x386x386_000_000_110_110 h_S_) main_arg0 main_cst
  let main_v1 : FVec F S64x96x1x1 .f32 := (extractStridedSlice S64x96x1x1 ![0, 0, 0, 0] · slices_S64x96x3x3_S64x96x1x1_0_0_0_0) main_arg1
  let main_v2 : FVec F S64x96 .f32 := shapeCast S64x96 main_v1 shapeCasts_S64x96x1x1_S64x96
  let main_v3 : FVec F S2x96x384x384 .f32 := (extractStridedSlice S2x96x384x384 ![0, 0, 0, 0] · slices_S2x96x386x386_S2x96x384x384_0_0_0_0) main_v0
  let main_v4 : FVec F S2x384x384x64 .f32 := (fun l r => Host.dotGeneral dot_S2x96x384x384_S64x96_S2x384x384x64_1_1_023_0_n_n none l r) main_v3 main_v2
  let main_v5 : FVec F S2x64x384x384 .f32 := (transpose S2x64x384x384 [0, 3, 1, 2] · transposes_S2x384x384x64_S2x64x384x384_0_3_1_2) main_v4
  let main_v6 : FVec F S64x96x1x1 .f32 := (extractStridedSlice S64x96x1x1 ![0, 0, 0, 1] · slices_S64x96x3x3_S64x96x1x1_0_0_0_1) main_arg1
  let main_v7 : FVec F S64x96 .f32 := shapeCast S64x96 main_v6 shapeCasts_S64x96x1x1_S64x96
  let main_v8 : FVec F S2x96x384x384 .f32 := (extractStridedSlice S2x96x384x384 ![0, 0, 0, 1] · slices_S2x96x386x386_S2x96x384x384_0_0_0_1) main_v0
  let main_v9 : FVec F S2x384x384x64 .f32 := (fun l r => Host.dotGeneral dot_S2x96x384x384_S64x96_S2x384x384x64_1_1_023_0_n_n none l r) main_v8 main_v7
  let main_v10 : FVec F S2x64x384x384 .f32 := (transpose S2x64x384x384 [0, 3, 1, 2] · transposes_S2x384x384x64_S2x64x384x384_0_3_1_2) main_v9
  let main_v11 : FVec F S2x64x384x384 .f32 := addf main_v5 main_v10
  let main_v12 : FVec F S64x96x1x1 .f32 := (extractStridedSlice S64x96x1x1 ![0, 0, 0, 2] · slices_S64x96x3x3_S64x96x1x1_0_0_0_2) main_arg1
  let main_v13 : FVec F S64x96 .f32 := shapeCast S64x96 main_v12 shapeCasts_S64x96x1x1_S64x96
  let main_v14 : FVec F S2x96x384x384 .f32 := (extractStridedSlice S2x96x384x384 ![0, 0, 0, 2] · slices_S2x96x386x386_S2x96x384x384_0_0_0_2) main_v0
  let main_v15 : FVec F S2x384x384x64 .f32 := (fun l r => Host.dotGeneral dot_S2x96x384x384_S64x96_S2x384x384x64_1_1_023_0_n_n none l r) main_v14 main_v13
  let main_v16 : FVec F S2x64x384x384 .f32 := (transpose S2x64x384x384 [0, 3, 1, 2] · transposes_S2x384x384x64_S2x64x384x384_0_3_1_2) main_v15
  let main_v17 : FVec F S2x64x384x384 .f32 := addf main_v11 main_v16
  let main_v18 : FVec F S64x96x1x1 .f32 := (extractStridedSlice S64x96x1x1 ![0, 0, 1, 0] · slices_S64x96x3x3_S64x96x1x1_0_0_1_0) main_arg1
  let main_v19 : FVec F S64x96 .f32 := shapeCast S64x96 main_v18 shapeCasts_S64x96x1x1_S64x96
  let main_v20 : FVec F S2x96x384x384 .f32 := (extractStridedSlice S2x96x384x384 ![0, 0, 1, 0] · slices_S2x96x386x386_S2x96x384x384_0_0_1_0) main_v0
  let main_v21 : FVec F S2x384x384x64 .f32 := (fun l r => Host.dotGeneral dot_S2x96x384x384_S64x96_S2x384x384x64_1_1_023_0_n_n none l r) main_v20 main_v19
  let main_v22 : FVec F S2x64x384x384 .f32 := (transpose S2x64x384x384 [0, 3, 1, 2] · transposes_S2x384x384x64_S2x64x384x384_0_3_1_2) main_v21
  fn_part1 (F := F) main_arg1 main_arg2 main_arg3 main_arg4 main_arg5 main_arg6 main_v0 main_v17 main_v22
-- ==== Kernel.lean ====
abbrev S2x96x384x384 : Shape := ⟨4, ![2, 96, 384, 384]⟩
abbrev S64x96x3x3 : Shape := ⟨4, ![64, 96, 3, 3]⟩
abbrev S64 : Shape := ⟨1, ![64]⟩
abbrev S64x64x3x3 : Shape := ⟨4, ![64, 64, 3, 3]⟩
abbrev S96x64x1x1 : Shape := ⟨4, ![96, 64, 1, 1]⟩
abbrev S96 : Shape := ⟨1, ![96]⟩
abbrev S3x3x64x96 : Shape := ⟨4, ![3, 3, 64, 96]⟩
abbrev S3x3x64x64 : Shape := ⟨4, ![3, 3, 64, 64]⟩
abbrev S3x1x64x64 : Shape := ⟨4, ![3, 1, 64, 64]⟩
abbrev S3x64x64 : Shape := ⟨3, ![3, 64, 64]⟩
abbrev S3x64x128 : Shape := ⟨3, ![3, 64, 128]⟩
abbrev S1x1x64x64 : Shape := ⟨4, ![1, 1, 64, 64]⟩
abbrev S64x64 : Shape := ⟨2, ![64, 64]⟩
abbrev S64x128 : Shape := ⟨2, ![64, 128]⟩
abbrev S_ : Shape := ⟨0, ![]⟩
abbrev S1x64x128 : Shape := ⟨3, ![1, 64, 128]⟩
abbrev S2x64x128 : Shape := ⟨3, ![2, 64, 128]⟩
abbrev S96x64 : Shape := ⟨2, ![96, 64]⟩
abbrev S64x1 : Shape := ⟨2, ![64, 1]⟩
abbrev S96x1 : Shape := ⟨2, ![96, 1]⟩
abbrev S1x96 : Shape := ⟨2, ![1, 96]⟩
abbrev S1x96x8x384 : Shape := ⟨4, ![1, 96, 8, 384]⟩
abbrev S1x96x32x384 : Shape := ⟨4, ![1, 96, 32, 384]⟩
abbrev S1x96x2x384 : Shape := ⟨4, ![1, 96, 2, 384]⟩
abbrev S96x2x384 : Shape := ⟨3, ![96, 2, 384]⟩
abbrev S96x768 : Shape := ⟨2, ![96, 768]⟩
abbrev S96x32x384 : Shape := ⟨3, ![96, 32, 384]⟩
abbrev S96x12288 : Shape := ⟨2, ![96, 12288]⟩
abbrev S96x13824 : Shape := ⟨2, ![96, 13824]⟩
abbrev S1x13824 : Shape := ⟨2, ![1, 13824]⟩
abbrev S96x13823 : Shape := ⟨2, ![96, 13823]⟩
abbrev S1x1x64x96 : Shape := ⟨4, ![1, 1, 64, 96]⟩
abbrev S64x96 : Shape := ⟨2, ![64, 96]⟩
abbrev S96x13056 : Shape := ⟨2, ![96, 13056]⟩
abbrev S64x13056 : Shape := ⟨2, ![64, 13056]⟩
abbrev S64x384 : Shape := ⟨2, ![64, 384]⟩
abbrev S64x12288 : Shape := ⟨2, ![64, 12288]⟩
abbrev S1x13056 : Shape := ⟨2, ![1, 13056]⟩
abbrev S64x13055 : Shape := ⟨2, ![64, 13055]⟩
abbrev S128x13056 : Shape := ⟨2, ![128, 13056]⟩
abbrev S64x12672 : Shape := ⟨2, ![64, 12672]⟩
abbrev S128x12288 : Shape := ⟨2, ![128, 12288]⟩
abbrev S1x12288 : Shape := ⟨2, ![1, 12288]⟩
abbrev S12288 : Shape := ⟨1, ![12288]⟩

abbrev nBuf : Space → Nat
  | .hbm => 34
  | .vmem => 16
  | .smem => 0
  | _ => 0

abbrev bufTy : (tb : Table) → Fin (tcTables nBuf tb) → BufTy
  | .hbm, ⟨0, _⟩ => ⟨S2x96x384x384, .f32⟩
  | .hbm, ⟨1, _⟩ => ⟨S64x96x3x3, .f32⟩
  | .hbm, ⟨2, _⟩ => ⟨S64, .f32⟩
  | .hbm, ⟨3, _⟩ => ⟨S64x64x3x3, .f32⟩
  | .hbm, ⟨4, _⟩ => ⟨S64, .f32⟩
  | .hbm, ⟨5, _⟩ => ⟨S96x64x1x1, .f32⟩
  | .hbm, ⟨6, _⟩ => ⟨S96, .f32⟩
  | .hbm, ⟨7, _⟩ => ⟨S3x3x64x96, .f32⟩
  | .hbm, ⟨8, _⟩ => ⟨S3x3x64x64, .f32⟩
  | .hbm, ⟨9, _⟩ => ⟨S3x1x64x64, .f32⟩
  | .hbm, ⟨10, _⟩ => ⟨S3x64x64, .f32⟩
  | .hbm, ⟨11, _⟩ => ⟨S3x1x64x64, .f32⟩
  | .hbm, ⟨12, _⟩ => ⟨S3x64x64, .f32⟩
  | .hbm, ⟨13, _⟩ => ⟨S3x64x128, .f32⟩
  | .hbm, ⟨14, _⟩ => ⟨S1x1x64x64, .f32⟩
  | .hbm, ⟨15, _⟩ => ⟨S64x64, .f32⟩
  | .hbm, ⟨16, _⟩ => ⟨S1x1x64x64, .f32⟩
  | .hbm, ⟨17, _⟩ => ⟨S64x64, .f32⟩
  | .hbm, ⟨18, _⟩ => ⟨S64x128, .f32⟩
  | .hbm, ⟨19, _⟩ => ⟨S1x1x64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x128, .f32⟩
  | .hbm, ⟨24, _⟩ => ⟨S1x64x128, .f32⟩
  | .hbm, ⟨25, _⟩ => ⟨S1x64x128, .f32⟩
  | .hbm, ⟨26, _⟩ => ⟨S2x64x128, .f32⟩
  | .hbm, ⟨27, _⟩ => ⟨S96x64, .f32⟩
  | .hbm, ⟨28, _⟩ => ⟨S64x1, .f32⟩
  | .hbm, ⟨29, _⟩ => ⟨S64x1, .f32⟩
  | .hbm, ⟨30, _⟩ => ⟨S96x1, .f32⟩
  | .hbm, ⟨31, _⟩ => ⟨S_, .f32⟩
  | .hbm, ⟨32, _⟩ => ⟨S1x96, .f32⟩
  | .hbm, ⟨33, _⟩ => ⟨S2x96x384x384, .f32⟩
  | .local _ .vmem, ⟨0, _⟩ => ⟨S1x96x8x384, .f32⟩
  | .local _ .vmem, ⟨1, _⟩ => ⟨S1x96x8x384, .f32⟩
  | .local _ .vmem, ⟨2, _⟩ => ⟨S1x96x32x384, .f32⟩
  | .local _ .vmem, ⟨3, _⟩ => ⟨S1x96x32x384, .f32⟩
  | .local _ .vmem, ⟨4, _⟩ => ⟨S1x96x8x384, .f32⟩
  | .local _ .vmem, ⟨5, _⟩ => ⟨S1x96x8x384, .f32⟩
  | .local _ .vmem, ⟨6, _⟩ => ⟨S3x3x64x96, .f32⟩
  | .local _ .vmem, ⟨7, _⟩ => ⟨S64x1, .f32⟩
  | .local _ .vmem, ⟨8, _⟩ => ⟨S3x64x128, .f32⟩
  | .local _ .vmem, ⟨9, _⟩ => ⟨S2x64x128, .f32⟩
  | .local _ .vmem, ⟨10, _⟩ => ⟨S64x1, .f32⟩
  | .local _ .vmem, ⟨11, _⟩ => ⟨S96x64, .f32⟩
  | .local _ .vmem, ⟨12, _⟩ => ⟨S96x1, .f32⟩
  | .local _ .vmem, ⟨13, _⟩ => ⟨S1x96, .f32⟩
  | .local _ .vmem, ⟨14, _⟩ => ⟨S1x96x32x384, .f32⟩
  | .local _ .vmem, ⟨15, _⟩ => ⟨S1x96x32x384, .f32⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 12], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli c4_i32 v0
  let c47_i32 : BitVec 32 := 47#32
  let v2 : BitVec 32 := Scalar.minsi v1 c47_i32
  let c0_i32 : BitVec 32 := 0#32
  let c0_i32_0 : BitVec 32 := 0#32
  let c0_i32_1 : BitVec 32 := 0#32
  ![arg0.toNat, c0_i32.toNat, v2.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3x64x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S96x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S96x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x96x32x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x96x384x384 : Shape := ⟨4, ![2, 96, 384, 384]⟩
abbrev S64x96x3x3 : Shape := ⟨4, ![64, 96, 3, 3]⟩
abbrev S64 : Shape := ⟨1, ![64]⟩
abbrev S64x64x3x3 : Shape := ⟨4, ![64, 64, 3, 3]⟩
abbrev S96x64x1x1 : Shape := ⟨4, ![96, 64, 1, 1]⟩
abbrev S96 : Shape := ⟨1, ![96]⟩
abbrev S_ : Shape := ⟨0, ![]⟩
abbrev S2x96x386x386 : Shape := ⟨4, ![2, 96, 386, 386]⟩
abbrev S64x96x1x1 : Shape := ⟨4, ![64, 96, 1, 1]⟩
abbrev S64x96 : Shape := ⟨2, ![64, 96]⟩
abbrev S2x384x384x64 : Shape := ⟨4, ![2, 384, 384, 64]⟩
abbrev S2x64x384x384 : Shape := ⟨4, ![2, 64, 384, 384]⟩
abbrev S1x64x1x1 : Shape := ⟨4, ![1, 64, 1, 1]⟩
abbrev S2x64x386x386 : Shape := ⟨4, ![2, 64, 386, 386]⟩
abbrev S64x64x1x1 : Shape := ⟨4, ![64, 64, 1, 1]⟩
abbrev S64x64 : Shape := ⟨2, ![64, 64]⟩
abbrev S96x64 : Shape := ⟨2, ![96, 64]⟩
abbrev S2x384x384x96 : Shape := ⟨4, ![2, 384, 384, 96]⟩
abbrev S1x96x1x1 : Shape := ⟨4, ![1, 96, 1, 1]⟩
abbrev S2x384x384 : Shape := ⟨3, ![2, 384, 384]⟩
abbrev S2x1x384x384 : Shape := ⟨4, ![2, 1, 384, 384]⟩
abbrev S2x384x384x4 : Shape := ⟨4, ![2, 384, 384, 4]⟩
abbrev S2 : Shape := ⟨1, ![2]⟩
abbrev S2x1x1x1 : Shape := ⟨4, ![2, 1, 1, 1]⟩
abbrev S384 : Shape := ⟨1, ![384]⟩
abbrev S1x384x1x1 : Shape := ⟨4, ![1, 384, 1, 1]⟩
abbrev S1x1x384x1 : Shape := ⟨4, ![1, 1, 384, 1]⟩
abbrev S2x384x384x4x1 : Shape := ⟨5, ![2, 384, 384, 4, 1]⟩
abbrev S2x384x384x4x4 : Shape := ⟨5, ![2, 384, 384, 4, 4]⟩

abbrev nBuf : Space → Nat
  | .hbm => 201
  | .vmem => 0
  | .smem => 0
  | _ => 0

abbrev hbmTy0_0 (i : Nat) : BufTy := match i % 128 with
  | 0 => ⟨S2x96x384x384, .f32⟩
  | 1 => ⟨S64x96x3x3, .f32⟩
  | 2 => ⟨S64, .f32⟩
  | 3 => ⟨S64x64x3x3, .f32⟩
  | 4 => ⟨S64, .f32⟩
  | 5 => ⟨S96x64x1x1, .f32⟩
  | 6 => ⟨S96, .f32⟩
  | 7 => ⟨S_, .f32⟩
  | 8 => ⟨S2x96x386x386, .f32⟩
  | 9 => ⟨S64x96x1x1, .f32⟩
  | 10 => ⟨S64x96, .f32⟩
  | 11 => ⟨S2x96x384x384, .f32⟩
  | 12 => ⟨S2x384x384x64, .f32⟩
  | 13 => ⟨S2x64x384x384, .f32⟩
  | 14 => ⟨S64x96x1x1, .f32⟩
  | 15 => ⟨S64x96, .f32⟩
  | 16 => ⟨S2x96x384x384, .f32⟩
  | 17 => ⟨S2x384x384x64, .f32⟩
  | 18 => ⟨S2x64x384x384, .f32⟩
  | 19 => ⟨S2x64x384x384, .f32⟩
  | 20 => ⟨S64x96x1x1, .f32⟩
  | 21 => ⟨S64x96, .f32⟩
  | 22 => ⟨S2x96x384x384, .f32⟩
  | 23 => ⟨S2x384x384x64, .f32⟩
  | 24 => ⟨S2x64x384x384, .f32⟩
  | 25 => ⟨S2x64x384x384, .f32⟩
  | 26 => ⟨S64x96x1x1, .f32⟩
  | 27 => ⟨S64x96, .f32⟩
  | 28 => ⟨S2x96x384x384, .f32⟩
  | 29 => ⟨S2x384x384x64, .f32⟩
  | 30 => ⟨S2x64x384x384, .f32⟩
  | 31 => ⟨S2x64x384x384, .f32⟩
  | 32 => ⟨S64x96x1x1, .f32⟩
  | 33 => ⟨S64x96, .f32⟩
  | 34 => ⟨S2x96x384x384, .f32⟩
  | 35 => ⟨S2x384x384x64, .f32⟩
  | 36 => ⟨S2x64x384x384, .f32⟩
  | 37 => ⟨S2x64x384x384, .f32⟩
  | 38 => ⟨S64x96x1x1, .f32⟩
  | 39 => ⟨S64x96, .f32⟩
  | 40 => ⟨S2x96x384x384, .f32⟩
  | 41 => ⟨S2x384x384x64, .f32⟩
  | 42 => ⟨S2x64x384x384, .f32⟩
  | 43 => ⟨S2x64x384x384, .f32⟩
  | 44 => ⟨S64x96x1x1, .f32⟩
  | 45 => ⟨S64x96, .f32⟩
  | 46 => ⟨S2x96x384x384, .f32⟩
  | 47 => ⟨S2x384x384x64, .f32⟩
  | 48 => ⟨S2x64x384x384, .f32⟩
  | 49 => ⟨S2x64x384x384, .f32⟩
  | 50 => ⟨S64x96x1x1, .f32⟩
  | 51 => ⟨S64x96, .f32⟩
  | 52 => ⟨S2x96x384x384, .f32⟩
  | 53 => ⟨S2x384x384x64, .f32⟩
  | 54 => ⟨S2x64x384x384, .f32⟩
  | 55 => ⟨S2x64x384x384, .f32⟩
  | 56 => ⟨S64x96x1x1, .f32⟩
  | 57 => ⟨S64x96, .f32⟩
  | 58 => ⟨S2x96x384x384, .f32⟩
  | 59 => ⟨S2x384x384x64, .f32⟩
  | 60 => ⟨S2x64x384x384, .f32⟩
  | 61 => ⟨S2x64x384x384, .f32⟩
  | 62 => ⟨S1x64x1x1, .f32⟩
  | 63 => ⟨S2x64x384x384, .f32⟩
  | 64 => ⟨S2x64x384x384, .f32⟩
  | 65 => ⟨S_, .f32⟩
  | 66 => ⟨S2x64x384x384, .f32⟩
  | 67 => ⟨S2x64x384x384, .f32⟩
  | 68 => ⟨S_, .f32⟩
  | 69 => ⟨S2x64x386x386, .f32⟩
  | 70 => ⟨S64x64x1x1, .f32⟩
  | 71 => ⟨S64x64, .f32⟩
  | 72 => ⟨S2x64x384x384, .f32⟩
  | 73 => ⟨S2x384x384x64, .f32⟩
  | 74 => ⟨S2x64x384x384, .f32⟩
  | 75 => ⟨S64x64x1x1, .f32⟩
  | 76 => ⟨S64x64, .f32⟩
  | 77 => ⟨S2x64x384x384, .f32⟩
  | 78 => ⟨S2x384x384x64, .f32⟩
  | 79 => ⟨S2x64x384x384, .f32⟩
  | 80 => ⟨S2x64x384x384, .f32⟩
  | 81 => ⟨S64x64x1x1, .f32⟩
  | 82 => ⟨S64x64, .f32⟩
  | 83 => ⟨S2x64x384x384, .f32⟩
  | 84 => ⟨S2x384x384x64, .f32⟩
  | 85 => ⟨S2x64x384x384, .f32⟩
  | 86 => ⟨S2x64x384x384, .f32⟩
  | 87 => ⟨S64x64x1x1, .f32⟩
  | 88 => ⟨S64x64, .f32⟩
  | 89 => ⟨S2x64x384x384, .f32⟩
  | 90 => ⟨S2x384x384x64, .f32⟩
  | 91 => ⟨S2x64x384x384, .f32⟩
  | 92 => ⟨S2x64x384x384, .f32⟩
  | 93 => ⟨S64x64x1x1, .f32⟩
  | 94 => ⟨S64x64, .f32⟩
  | 95 => ⟨S2x64x384x384, .f32⟩
  | 96 => ⟨S2x384x384x64, .f32⟩
  | 97 => ⟨S2x64x384x384, .f32⟩
  | 98 => ⟨S2x64x384x384, .f32⟩
  | 99 => ⟨S64x64x1x1, .f32⟩
  | 100 => ⟨S64x64, .f32⟩
  | 101 => ⟨S2x64x384x384, .f32⟩
  | 102 => ⟨S2x384x384x64, .f32⟩
  | 103 => ⟨S2x64x384x384, .f32⟩
  | 104 => ⟨S2x64x384x384, .f32⟩
  | 105 => ⟨S64x64x1x1, .f32⟩
  | 106 => ⟨S64x64, .f32⟩
  | 107 => ⟨S2x64x384x384, .f32⟩
  | 108 => ⟨S2x384x384x64, .f32⟩
  | 109 => ⟨S2x64x384x384, .f32⟩
  | 110 => ⟨S2x64x384x384, .f32⟩
  | 111 => ⟨S64x64x1x1, .f32⟩
  | 112 => ⟨S64x64, .f32⟩
  | 113 => ⟨S2x64x384x384, .f32⟩
  | 114 => ⟨S2x384x384x64, .f32⟩
  | 115 => ⟨S2x64x384x384, .f32⟩
  | 116 => ⟨S2x64x384x384, .f32⟩
  | 117 => ⟨S64x64x1x1, .f32⟩
  | 118 => ⟨S64x64, .f32⟩
  | 119 => ⟨S2x64x384x384, .f32⟩
  | 120 => ⟨S2x384x384x64, .f32⟩
  | 121 => ⟨S2x64x384x384, .f32⟩
  | 122 => ⟨S2x64x384x384, .f32⟩
  | 123 => ⟨S1x64x1x1, .f32⟩
  | 124 => ⟨S2x64x384x384, .f32⟩
  | 125 => ⟨S2x64x384x384, .f32⟩
  | 126 => ⟨S_, .f32⟩
  | 127 => ⟨S2x64x384x384, .f32⟩
  | _ => ⟨S2x96x384x384, .f32⟩

abbrev hbmTy0_1 (i : Nat) : BufTy := match i % 128 with
  | 0 => ⟨S2x64x384x384, .f32⟩
  | 1 => ⟨S96x64, .f32⟩
  | 2 => ⟨S2x384x384x96, .f32⟩
  | 3 => ⟨S2x96x384x384, .f32⟩
  | 4 => ⟨S1x96x1x1, .f32⟩
  | 5 => ⟨S2x96x384x384, .f32⟩
  | 6 => ⟨S2x96x384x384, .f32⟩
  | 7 => ⟨S_, .f32⟩
  | 8 => ⟨S2x384x384, .f32⟩
  | 9 => ⟨S_, .f32⟩
  | 10 => ⟨S2x384x384, .f32⟩
  | 11 => ⟨S2x384x384, .f32⟩
  | 12 => ⟨S2x1x384x384, .f32⟩
  | 13 => ⟨S2x96x384x384, .f32⟩
  | 14 => ⟨S2x96x384x384, .f32⟩
  | 15 => ⟨S2x96x384x384, .f32⟩
  | 16 => ⟨S_, .f32⟩
  | 17 => ⟨S2x384x384, .f32⟩
  | 18 => ⟨S2x1x384x384, .f32⟩
  | 19 => ⟨S2x96x384x384, .f32⟩
  | 20 => ⟨S2x96x384x384, .f32⟩
  | 21 => ⟨S2x384x384x96, .f32⟩
  | 22 => ⟨S2x384x384x4, .f32⟩
  | 23 => ⟨S2x384x384x4, .i32⟩
  | 24 => ⟨S2, .i32⟩
  | 25 => ⟨S2x1x1x1, .i32⟩
  | 26 => ⟨S384, .i32⟩
  | 27 => ⟨S1x384x1x1, .i32⟩
  | 28 => ⟨S384, .i32⟩
  | 29 => ⟨S1x1x384x1, .i32⟩
  | 30 => ⟨S_, .f32⟩
  | 31 => ⟨S2x384x384x96, .f32⟩
  | 32 => ⟨S_, .i32⟩
  | 33 => ⟨S2x1x1x1, .i32⟩
  | 34 => ⟨S2x1x1x1, .i1⟩
  | 35 => ⟨S_, .i32⟩
  | 36 => ⟨S2x1x1x1, .i32⟩
  | 37 => ⟨S2x1x1x1, .i32⟩
  | 38 => ⟨S2x1x1x1, .i32⟩
  | 39 => ⟨S_, .i32⟩
  | 40 => ⟨S1x384x1x1, .i32⟩
  | 41 => ⟨S1x384x1x1, .i1⟩
  | 42 => ⟨S_, .i32⟩
  | 43 => ⟨S1x384x1x1, .i32⟩
  | 44 => ⟨S1x384x1x1, .i32⟩
  | 45 => ⟨S1x384x1x1, .i32⟩
  | 46 => ⟨S_, .i32⟩
  | 47 => ⟨S1x1x384x1, .i32⟩
  | 48 => ⟨S1x1x384x1, .i1⟩
  | 49 => ⟨S_, .i32⟩
  | 50 => ⟨S1x1x384x1, .i32⟩
  | 51 => ⟨S1x1x384x1, .i32⟩
  | 52 => ⟨S1x1x384x1, .i32⟩
  | 53 => ⟨S_, .i32⟩
  | 54 => ⟨S2x384x384x4, .i32⟩
  | 55 => ⟨S2x384x384x4, .i1⟩
  | 56 => ⟨S_, .i32⟩
  | 57 => ⟨S2x384x384x4, .i32⟩
  | 58 => ⟨S2x384x384x4, .i32⟩
  | 59 => ⟨S2x384x384x4, .i32⟩
  | 60 => ⟨S2x384x384x4, .i32⟩
  | 61 => ⟨S2x384x384x4, .i32⟩
  | 62 => ⟨S2x384x384x4, .i32⟩
  | 63 => ⟨S2x384x384x4x1, .i32⟩
  | 64 => ⟨S2x384x384x4x1, .i32⟩
  | 65 => ⟨S2x384x384x4x1, .i32⟩
  | 66 => ⟨S2x384x384x4x1, .i32⟩
  | 67 => ⟨S2x384x384x4x4, .i32⟩
  | 68 => ⟨S_, .f32⟩
  | 69 => ⟨S2x384x384x4, .f32⟩
  | 70 => ⟨S2x384x384x96, .f32⟩
  | 71 => ⟨S2x384x384x96, .f32⟩
  | 72 => ⟨S2x96x384x384, .f32⟩
  | _ => ⟨S2x96x384x384, .f32⟩

abbrev hbmTy (i : Nat) : BufTy := match i / 128 with
  | 0 => hbmTy0_0 i
  | 1 => hbmTy0_1 i
  | _ => ⟨S2x96x384x384, .f32⟩

abbrev bufTy : (tb : Table) → Fin (tcTables nBuf tb) → BufTy
  | .hbm, ⟨i, _⟩ => hbmTy i
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_0 : Ref sig .tc := ⟨.hbm, 65, rfl⟩
abbrev main_v57 : Ref sig .tc := ⟨.hbm, 66, rfl⟩
abbrev main_v58 : Ref sig .tc := ⟨.hbm, 67, rfl⟩
abbrev main_cst_1 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_cst_2 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_cst_3 : Ref sig .tc := ⟨.hbm, 135, rfl⟩
abbrev main_v124 : Ref sig .tc := ⟨.hbm, 136, rfl⟩
abbrev main_cst_4 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_cst_5 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_values : Ref sig .tc := ⟨.hbm, 150, rfl⟩
abbrev main_indices : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_cst_6 : Ref sig .tc := ⟨.hbm, 158, rfl⟩
abbrev main_v142 : Ref sig .tc := ⟨.hbm, 159, rfl⟩
abbrev main_c : Ref sig .tc := ⟨.hbm, 160, rfl⟩
abbrev main_v143 : Ref sig .tc := ⟨.hbm, 161, rfl⟩
abbrev main_v144 : Ref sig .tc := ⟨.hbm, 162, rfl⟩
abbrev main_c_7 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_c_8 : Ref sig .tc := ⟨.hbm, 167, rfl⟩
abbrev main_v148 : Ref sig .tc := ⟨.hbm, 168, rfl⟩
abbrev main_v149 : Ref sig .tc := ⟨.hbm, 169, rfl⟩
abbrev main_c_9 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_c_10 : Ref sig .tc := ⟨.hbm, 174, rfl⟩
abbrev main_v153 : Ref sig .tc := ⟨.hbm, 175, rfl⟩
abbrev main_v154 : Ref sig .tc := ⟨.hbm, 176, rfl⟩
abbrev main_c_11 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_c_12 : Ref sig .tc := ⟨.hbm, 181, rfl⟩
abbrev main_v158 : Ref sig .tc := ⟨.hbm, 182, rfl⟩
abbrev main_v159 : Ref sig .tc := ⟨.hbm, 183, rfl⟩
abbrev main_c_13 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_cst_14 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩

abbrev nD : Nat := 1
abbrev τ : Topo := Topo.v7x

variable {F : FTy → Type} [FloatOps F]
-- ==== Proof.Frames.lean ====
/-
  The frames of the three programs and the claim that idealizing the kernel kept its text: nothing here looks at values.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof.Frames

open Idealize.ShloMosaic Idealize.SL.Sem

/-- The kernel at the formats' own words terminates, keeps its arguments and ends with every semaphore counter at zero. -/
theorem frame_kernel : Cert.quiescent_Kernel (hKernel := Cert.Kernel.Gen.facts) := fun m ρ _ => Cert.Kernel.Gen.frame m ρ

/-- The kernel at the extended reals terminates, keeps its arguments and ends with every semaphore counter at zero. -/
theorem frame_kernelIdeal : Cert.quiescent_KernelIdeal (hKernelIdeal := Cert.KernelIdeal.Gen.facts) :=
  fun m ρ _ => Cert.KernelIdeal.Gen.frame m ρ

/-- The reference terminates and keeps its arguments; it declares no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Idealizing the kernel rewrote no operation. -/
theorem preserves : Cert.preserves_Kernel_KernelIdeal := trivial

end Cert.Proof.Frames

end
-- ==== Proof.Spec.lean ====
/-
  The mathematics both programs compute, over extended reals and integer pixel coordinates; no program is named here.
  An image is a function of two integers, zero outside rows and columns 0 … 383.
-/
module

public import Idealize.ShloMosaic.PureOps.Ideal.Laws
public import Idealize.ShloMosaic.Lib.ValueIdxCore

@[expose] public section

noncomputable section

namespace Cert.Spec

open Idealize.ShloMosaic Idealize.ShloMosaic.ValueIdx

/-- The word of minus infinity. -/
theorem ofBits_bot : Ideal.ofBits .f32 0xFF800000#32 = ⊥ := by
  simp [Ideal.ofBits, Ideal.ieee, -EReal.coe_mul]

/-- A pixel of the 384 by 384 image. -/
def InImage (Y X : ℤ) : Prop := 0 ≤ Y ∧ Y < 384 ∧ 0 ≤ X ∧ X < 384

instance (Y X : ℤ) : Decidable (InImage Y X) := by unfold InImage; infer_instance

/-- Channel `c` of batch entry `b` of an array, extended by zero to all integer coordinates. -/
def image {C : ℕ} (x : (⟨4, ![2, C, 384, 384]⟩ : Shape).Idx → EReal) (b : Fin 2) (c : Fin C) (Y X : ℤ) : EReal :=
  if h : InImage Y X then x (ix4 b c ⟨Y.toNat, by obtain ⟨_, _, _, _⟩ := h; omega⟩ ⟨X.toNat, by obtain ⟨_, _, _, _⟩ := h; omega⟩) else 0

/-- A function of integer coordinates, replaced by zero outside the image. -/
def clip (f : ℤ → ℤ → EReal) (Y X : ℤ) : EReal := if InImage Y X then f Y X else 0

/-- One tap of a 3 by 3 convolution: the sum over input channels of weight times pixel, shifted by `(dy - 1, dx - 1)`. -/
def tap {O C : ℕ} (w : (⟨4, ![O, C, 3, 3]⟩ : Shape).Idx → EReal) (f : Fin C → ℤ → ℤ → EReal) (o : Fin O) (dy dx : Fin 3) (Y X : ℤ) : EReal :=
  ∑ k : Fin C, w (ix4 o k dy dx) * f k (Y + dy.val - 1) (X + dx.val - 1)

/-- A 3 by 3 convolution with bias, then the positive part: nine taps added from the top left to the bottom right. -/
def conv {O C : ℕ} (w : (⟨4, ![O, C, 3, 3]⟩ : Shape).Idx → EReal) (bias : (⟨1, ![O]⟩ : Shape).Idx → EReal)
    (f : Fin C → ℤ → ℤ → EReal) (o : Fin O) (Y X : ℤ) : EReal :=
  max (tap w f o 0 0 Y X + tap w f o 0 1 Y X + tap w f o 0 2 Y X + tap w f o 1 0 Y X + tap w f o 1 1 Y X + tap w f o 1 2 Y X
    + tap w f o 2 0 Y X + tap w f o 2 1 Y X + tap w f o 2 2 Y X + bias (ix1 o)) 0

/-- The seven argument arrays. -/
structure Args where
  x : (⟨4, ![2, 96, 384, 384]⟩ : Shape).Idx → EReal
  w1 : (⟨4, ![64, 96, 3, 3]⟩ : Shape).Idx → EReal
  b1 : (⟨1, ![64]⟩ : Shape).Idx → EReal
  w2 : (⟨4, ![64, 64, 3, 3]⟩ : Shape).Idx → EReal
  b2 : (⟨1, ![64]⟩ : Shape).Idx → EReal
  w3 : (⟨4, ![96, 64, 1, 1]⟩ : Shape).Idx → EReal
  b3 : (⟨1, ![96]⟩ : Shape).Idx → EReal

/-- The first hidden layer, at any integer coordinates. -/
def hidden1 (A : Args) (b : Fin 2) (o : Fin 64) (Y X : ℤ) : EReal := conv A.w1 A.b1 (image A.x b) o Y X

/-- The second hidden layer: the convolution of the first, clipped to the image. -/
def hidden2 (A : Args) (b : Fin 2) (o : Fin 64) (Y X : ℤ) : EReal := conv A.w2 A.b2 (fun k => clip (hidden1 A b k)) o Y X

/-- The logits: a 1 by 1 convolution of the second hidden layer with bias. -/
def logit (A : Args) (b : Fin 2) (c : Fin 96) (Y X : ℤ) : EReal :=
  (∑ k : Fin 64, A.w3 (ix4 c k 0 0) * hidden2 A b k Y X) + A.b3 (ix1 c)

/-- Setting every entry that attains the maximum to minus one. -/
def peel (w : Fin 96 → EReal) (c : Fin 96) : EReal := if w c = Finset.univ.sup w then -1 else w c

/-- The kernel's result at a pixel from its 96 logits: exponentials at least as large as the maximum left after three
    peelings, divided by the sum of the exponentials; zero elsewhere. -/
def pick (L : Fin 96 → EReal) (c : Fin 96) : EReal :=
  if Finset.univ.sup (peel (peel (peel fun d => Ideal.exp (L d)))) ≤ Ideal.exp (L c) then
    Ideal.exp (L c) * Ideal.div 1 (∑ d : Fin 96, Ideal.exp (L d))
  else 0

/-- The softmax of 96 logits, their maximum subtracted first. -/
def softmax (L : Fin 96 → EReal) (c : Fin 96) : EReal :=
  Ideal.div (Ideal.exp (L c - Finset.univ.sup L)) (∑ d : Fin 96, Ideal.exp (L d - Finset.univ.sup L))

/-- The whole result. -/
def result (A : Args) (j : (⟨4, ![2, 96, 384, 384]⟩ : Shape).Idx) : EReal :=
  pick (fun c => logit A (j 0) c ((j 2).val : ℤ) ((j 3).val : ℤ)) (j 1)

end Cert.Spec

end
-- ==== Proof.KernelArrays.lean ====
/-
  The arrays the host operations prepare before the kernel starts, read at an index as elements of the argument arrays.
-/
module

public import proofs.«01_k».proof.Proof.Spec
public import proofs.«01_k».proof.Proof.Gen.KernelIdeal.Frame
public import Idealize.ShloMosaic.Lib.StableHlo.ReadAt
public import Idealize.ShloMosaic.Lib.Pointwise
public import Idealize.ShloMosaic.Lib.IdealHost

@[expose] public section

set_option maxRecDepth 16384

noncomputable section

namespace Cert.KernelArrays

open Cert.KernelIdeal Cert.KernelIdeal.Gen Idealize.ShloMosaic Idealize.ShloMosaic.TcCoe

variable (m : (ℓ : Loc nD τ sig) → Buf (Elt Ideal) ℓ) (c : Dev nD)

/-- The first weights, with the two tap axes moved to the front. -/
theorem v0_at (dy dx : Fin 3) (o : Fin 64) (k : Fin 96) :
    V m c main_v0 (ValueIdx.ix4 dy dx o k) = m ((c : Thread nD τ).loc main_arg1) (ValueIdx.ix4 o k dy dx) := by
  after_reads_at
  rfl

/-- The left half of the paired second weights: the taps of column 0. -/
theorem v6_left (dy : Fin 3) (o : Fin 64) (k : Fin 64) :
    V m c main_v6 (ValueIdx.ix3 dy o (Fin.castAdd 64 k)) = m ((c : Thread nD τ).loc main_arg3) (ValueIdx.ix4 o k dy 0) := by
  after_reads_at
  refine (dif_pos (show (Fin.castAdd 64 k).val < 64 from k.isLt)).trans ?_
  rfl

/-- The right half of the paired second weights: the taps of column 1. -/
theorem v6_right (dy : Fin 3) (o : Fin 64) (k : Fin 64) :
    V m c main_v6 (ValueIdx.ix3 dy o (Fin.natAdd 64 k)) = m ((c : Thread nD τ).loc main_arg3) (ValueIdx.ix4 o k dy 1) := by
  after_reads_at
  refine (dif_neg (show ¬ (Fin.natAdd 64 k).val < 64 by simp [Fin.natAdd])).trans ?_
  exact congrArg (fun q => m ((c : Thread nD τ).loc main_arg3) (ValueIdx.ix4 o q dy 1)) (Fin.ext (by simp [Fin.natAdd]))

/-- The taps of column 2: rows 0 and 1 side by side, left half. -/
theorem v18_0_left (o : Fin 64) (k : Fin 64) :
    V m c main_v18 (ValueIdx.ix3 0 o (Fin.castAdd 64 k)) = m ((c : Thread nD τ).loc main_arg3) (ValueIdx.ix4 o k 0 2) := by
  after_reads_at
  refine (dif_pos (show (Fin.castAdd 64 k).val < 64 from k.isLt)).trans ?_
  after_reads_at
  rfl

/-- The taps of column 2: rows 0 and 1 side by side, right half. -/
theorem v18_0_right (o : Fin 64) (k : Fin 64) :
    V m c main_v18 (ValueIdx.ix3 0 o (Fin.natAdd 64 k)) = m ((c : Thread nD τ).loc main_arg3) (ValueIdx.ix4 o k 1 2) := by
  after_reads_at
  refine (dif_neg (show ¬ (Fin.natAdd 64 k).val < 64 by simp [Fin.natAdd])).trans ?_
  after_reads_at
  exact congrArg (fun q => m ((c : Thread nD τ).loc main_arg3) (ValueIdx.ix4 o q 1 2)) (Fin.ext (by simp [Fin.natAdd]))

/-- The taps of column 2: row 2, left half. -/
theorem v18_1_left (o : Fin 64) (k : Fin 64) :
    V m c main_v18 (ValueIdx.ix3 1 o (Fin.castAdd 64 k)) = m ((c : Thread nD τ).loc main_arg3) (ValueIdx.ix4 o k 2 2) := by
  after_reads_at
  refine (dif_pos (show (Fin.castAdd 64 k).val < 64 from k.isLt)).trans ?_
  after_reads_at
  rfl

/-- The right half beside row 2 of column 2 is zero. -/
theorem v18_1_right (o : Fin 64) (k : Fin 64) : V m c main_v18 (ValueIdx.ix3 1 o (Fin.natAdd 64 k)) = (0 : EReal) := by
  after_reads_at
  refine (dif_neg (show ¬ (Fin.natAdd 64 k).val < 64 by simp [Fin.natAdd])).trans ?_
  after_reads_at

/-- The last weights as a matrix. -/
theorem v19_at (d : Fin 96) (k : Fin 64) :
    V m c main_v19 (ValueIdx.ix2 d k) = m ((c : Thread nD τ).loc main_arg5) (ValueIdx.ix4 d k 0 0) := by
  after_reads_at
  rfl

/-- The first bias as a column. -/
theorem v20_at (o : Fin 64) : V m c main_v20 (ValueIdx.ix2 o 0) = m ((c : Thread nD τ).loc main_arg2) (ValueIdx.ix1 o) := by
  after_reads_at
  rfl

/-- The second bias as a column. -/
theorem v21_at (o : Fin 64) : V m c main_v21 (ValueIdx.ix2 o 0) = m ((c : Thread nD τ).loc main_arg4) (ValueIdx.ix1 o) := by
  after_reads_at
  rfl

/-- The last bias as a column. -/
theorem v22_at (d : Fin 96) : V m c main_v22 (ValueIdx.ix2 d 0) = m ((c : Thread nD τ).loc main_arg6) (ValueIdx.ix1 d) := by
  after_reads_at
  rfl

/-- The row of ones. -/
theorem v23_at (d : Fin 96) : V m c main_v23 (ValueIdx.ix2 0 d) = (1 : EReal) := by
  after_reads_at

end Cert.KernelArrays

end
-- ==== Proof.Layout.lean ====
/-
  Images stored as flat rows: pixel `(Y, X)` of a 384-column image at column `384 * (Y - y0) + X`. How slices, rolls with
  a masked edge, and concatenations of such arrays read. No program is named here.
-/
module

public import Idealize.ShloMosaic.Lib.Pointwise
public import Idealize.ShloMosaic.Lib.Tactic.WordOmega
public import Idealize.ShloMosaic.Lib.Routing.Words
public import Idealize.ShloMosaic.Lib.IdealHost
public import Idealize.ShloMosaic.Lib.ValueIdxCore
public import Idealize.ShloMosaic.Lib.Pipeline.Value

@[expose] public section

noncomputable section

namespace Cert.Layout

open Idealize.ShloMosaic

/-- The flat array `v` holds channel `c` of the image `f`, its first row being row `y0`. -/
def Flat {C N : ℕ} (y0 : ℤ) (f : Fin C → ℤ → ℤ → EReal) (v : (⟨2, ![C, N]⟩ : Shape).Idx → EReal) : Prop :=
  ∀ (c : Fin C) (n : Fin N), v (ValueIdx.ix2 c n) = f c (y0 + ((n.val / 384 : ℕ) : ℤ)) ((n.val % 384 : ℕ) : ℤ)

variable {C N M : ℕ}

/-- Equal images are held by the same arrays. -/
theorem Flat.congr {y0 : ℤ} {f g : Fin C → ℤ → ℤ → EReal} {v : (⟨2, ![C, N]⟩ : Shape).Idx → EReal} (h : Flat y0 f v)
    (e : ∀ c Y X, f c Y X = g c Y X) : Flat y0 g v := fun c n => (h c n).trans (e _ _ _)

/-- Columns from `384 * d` on: the image from `d` rows further down. -/
theorem Flat.slice {y0 : ℤ} {f : Fin C → ℤ → ℤ → EReal} {v : (⟨2, ![C, N]⟩ : Shape).Idx → EReal} (h : Flat y0 f v)
    (o : ℕ) (d : ℕ) (ho : o = 384 * d) (hs : (⟨2, ![C, N]⟩ : Shape).Slices ![0, o] ⟨2, ![C, M]⟩) :
    Flat (y0 + (d : ℤ)) f (extractStridedSlice (⟨2, ![C, M]⟩ : Shape) ![0, o] v hs) := by
  intro c n
  have hb : o + n.val < N := by
    have h1 : o + M ≤ N := hs.2 1
    have := n.isLt; omega
  rw [extractStridedSlice_apply ![0, o] v hs (ValueIdx.ix2 c n) (ValueIdx.ix2 c ⟨o + n.val, hb⟩) (by
    intro a; match a with
    | ⟨0, _⟩ => exact (Nat.zero_add _).symm
    | ⟨1, _⟩ => rfl), h]
  congr 1
  · subst ho; simp only; rw [Nat.mul_add_div (by decide)]; push_cast; ring
  · subst ho; simp only; rw [Nat.mul_add_mod]

/-- Every column one to the right, the first column of every row zero: the image read one pixel to the left. -/
theorem Flat.left {y0 : ℤ} {f : Fin C → ℤ → ℤ → EReal} {v : (⟨2, ![C, N]⟩ : Shape).Idx → EReal} (h : Flat y0 f v)
    (hf : ∀ c Y, f c Y (-1) = 0) (mask : IVec (⟨2, ![1, N]⟩ : Shape) 1)
    (hmask : ∀ n : Fin N, mask (ValueIdx.ix2 0 n) = 1#1 ↔ n.val % 384 = 0) (o : ℕ)
    (h1 : (⟨2, ![C, N]⟩ : Shape).Slices ![0, o] ⟨2, ![C, 1]⟩) (h2 : (⟨2, ![C, N]⟩ : Shape).Slices ![0, 0] ⟨2, ![C, M]⟩)
    (h3 : Shape.Concatenates [(⟨2, ![C, 1]⟩ : Shape), ⟨2, ![C, M]⟩] ⟨2, ![C, N]⟩ 1)
    (h4 : (⟨2, ![1, N]⟩ : Shape).ShapeCasts ⟨2, ![1, N]⟩) (h5 : (⟨2, ![1, N]⟩ : Shape).Broadcasts ⟨2, ![C, N]⟩) (hN : N ≠ 1) :
    Flat y0 (fun c Y X => f c Y (X - 1))
      (select (broadcastTo (⟨2, ![C, N]⟩ : Shape) (shapeCast (⟨2, ![1, N]⟩ : Shape) mask h4) h5)
        (broadcast (⟨2, ![C, N]⟩ : Shape) (Scalar.ofBits (F := Ideal) .f32 0x00000000#32))
        (concatenate (⟨2, ![C, N]⟩ : Shape) 1
          [⟨⟨2, ![C, 1]⟩, extractStridedSlice (⟨2, ![C, 1]⟩ : Shape) ![0, o] v h1⟩,
            ⟨⟨2, ![C, M]⟩, extractStridedSlice (⟨2, ![C, M]⟩ : Shape) ![0, 0] v h2⟩] h3)) := by
  intro c n
  rw [shapeCast_self]
  show Scalar.select (broadcastTo _ mask h5 _) (Ideal.ofBits .f32 0x00000000#32) _ = _
  rw [broadcastTo_apply mask h5 (ValueIdx.ix2 c n) (ValueIdx.ix2 0 n) (by
    intro a; match a with
    | ⟨0, _⟩ => rfl
    | ⟨1, _⟩ => exact (if_neg hN).symm), Ideal.ofBits_zero_f32]
  unfold Scalar.select
  change (if mask (ValueIdx.ix2 0 n) = 1#1 then _ else _) = _
  by_cases hm : n.val % 384 = 0
  · rw [if_pos ((hmask n).mpr hm), hm]
    exact (hf _ _).symm
  · rw [if_neg (fun e => hm ((hmask n).mp e))]
    have hn0 : n.val ≠ 0 := fun e => hm (by rw [e])
    have hM : 1 + (M + 0) = N := h3.2.2
    have hlt : n.val - 1 < M := by have := n.isLt; omega
    rw [concatenate_pair_apply_right 1 _ _ h3 (ValueIdx.ix2 c n) rfl rfl (ValueIdx.ix2 c ⟨n.val - 1, hlt⟩) (by
        intro b hb; match b, hb with
        | ⟨0, _⟩, _ => rfl
        | ⟨1, _⟩, hb => exact absurd rfl hb) (by
        show n.val - 1 + 1 = n.val; omega),
      extractStridedSlice_apply ![0, 0] v h2 (ValueIdx.ix2 c ⟨n.val - 1, hlt⟩) (ValueIdx.ix2 c ⟨n.val - 1, by omega⟩) (by
        intro a; match a with
        | ⟨0, _⟩ => exact (Nat.zero_add _).symm
        | ⟨1, _⟩ => exact (Nat.zero_add _).symm), h]
    congr 1
    · simp only; congr 2; omega
    · simp only; omega

/-- Every column one to the left, the last column of every row zero: the image read one pixel to the right. -/
theorem Flat.right {y0 : ℤ} {f : Fin C → ℤ → ℤ → EReal} {v : (⟨2, ![C, N]⟩ : Shape).Idx → EReal} (h : Flat y0 f v)
    (hf : ∀ c Y, f c Y 384 = 0) (mask : IVec (⟨2, ![1, N]⟩ : Shape) 1)
    (hmask : ∀ n : Fin N, mask (ValueIdx.ix2 0 n) = 1#1 ↔ n.val % 384 = 383) (hN384 : N % 384 = 0)
    (h1 : (⟨2, ![C, N]⟩ : Shape).Slices ![0, 1] ⟨2, ![C, M]⟩) (h2 : (⟨2, ![C, N]⟩ : Shape).Slices ![0, 0] ⟨2, ![C, 1]⟩)
    (h3 : Shape.Concatenates [(⟨2, ![C, M]⟩ : Shape), ⟨2, ![C, 1]⟩] ⟨2, ![C, N]⟩ 1)
    (h4 : (⟨2, ![1, N]⟩ : Shape).ShapeCasts ⟨2, ![1, N]⟩) (h5 : (⟨2, ![1, N]⟩ : Shape).Broadcasts ⟨2, ![C, N]⟩) (hN : N ≠ 1) :
    Flat y0 (fun c Y X => f c Y (X + 1))
      (select (broadcastTo (⟨2, ![C, N]⟩ : Shape) (shapeCast (⟨2, ![1, N]⟩ : Shape) mask h4) h5)
        (broadcast (⟨2, ![C, N]⟩ : Shape) (Scalar.ofBits (F := Ideal) .f32 0x00000000#32))
        (concatenate (⟨2, ![C, N]⟩ : Shape) 1
          [⟨⟨2, ![C, M]⟩, extractStridedSlice (⟨2, ![C, M]⟩ : Shape) ![0, 1] v h1⟩,
            ⟨⟨2, ![C, 1]⟩, extractStridedSlice (⟨2, ![C, 1]⟩ : Shape) ![0, 0] v h2⟩] h3)) := by
  intro c n
  rw [shapeCast_self]
  show Scalar.select (broadcastTo _ mask h5 _) (Ideal.ofBits .f32 0x00000000#32) _ = _
  rw [broadcastTo_apply mask h5 (ValueIdx.ix2 c n) (ValueIdx.ix2 0 n) (by
    intro a; match a with
    | ⟨0, _⟩ => rfl
    | ⟨1, _⟩ => exact (if_neg hN).symm), Ideal.ofBits_zero_f32]
  unfold Scalar.select
  change (if mask (ValueIdx.ix2 0 n) = 1#1 then _ else _) = _
  by_cases hm : n.val % 384 = 383
  · rw [if_pos ((hmask n).mpr hm), hm]
    exact (hf _ _).symm
  · rw [if_neg (fun e => hm ((hmask n).mp e))]
    have hM : M + (1 + 0) = N := h3.2.2
    have hlt : n.val < M := by have := n.isLt; omega
    rw [concatenate_pair_apply_left 1 _ _ h3 (ValueIdx.ix2 c n) rfl (ValueIdx.ix2 c ⟨n.val, hlt⟩) (by
        intro b; match b with
        | ⟨0, _⟩ => rfl
        | ⟨1, _⟩ => rfl),
      extractStridedSlice_apply ![0, 1] v h1 (ValueIdx.ix2 c ⟨n.val, hlt⟩) (ValueIdx.ix2 c ⟨1 + n.val, by omega⟩) (by
        intro a; match a with
        | ⟨0, _⟩ => exact (Nat.zero_add _).symm
        | ⟨1, _⟩ => rfl), h]
    congr 1
    · simp only; congr 2; omega
    · simp only; omega

/-- Three arrays side by side, the first `a` and the second `m` columns wide, at column `n`. -/
theorem concat_three {α : Type} {a m b : ℕ} (x : (⟨2, ![C, a]⟩ : Shape).Idx → α) (y : (⟨2, ![C, m]⟩ : Shape).Idx → α)
    (z : (⟨2, ![C, b]⟩ : Shape).Idx → α)
    (h : Shape.Concatenates [(⟨2, ![C, a]⟩ : Shape), ⟨2, ![C, m]⟩, ⟨2, ![C, b]⟩] ⟨2, ![C, N]⟩ 1) (c : Fin C) (n : Fin N) :
    concatenate (⟨2, ![C, N]⟩ : Shape) 1 [⟨_, x⟩, ⟨_, y⟩, ⟨_, z⟩] h (ValueIdx.ix2 c n)
      = if h1 : n.val < a then x (ValueIdx.ix2 c ⟨n.val, h1⟩)
        else if h2 : n.val - a < m then y (ValueIdx.ix2 c ⟨n.val - a, h2⟩)
        else z (ValueIdx.ix2 c ⟨n.val - a - m, by have e : a + (m + (b + 0)) = N := h.2.2; have := n.isLt; omega⟩) := by
  have e : a + (m + (b + 0)) = N := h.2.2
  split
  · next h1 =>
    exact concatenate_apply_piece (t := (⟨2, ![C, N]⟩ : Shape)) 1 [⟨_, x⟩, ⟨_, y⟩, ⟨_, z⟩] h (ValueIdx.ix2 c n) 0 (by simp) _ x rfl rfl 0 rfl (ValueIdx.ix2 c ⟨n.val, h1⟩) (by
      intro d hd; match d, hd with
      | ⟨0, _⟩, _ => rfl
      | ⟨1, _⟩, hd => exact absurd rfl hd) (Nat.zero_add _)
  · split
    · next h1 h2 =>
      exact concatenate_apply_piece (t := (⟨2, ![C, N]⟩ : Shape)) 1 [⟨_, x⟩, ⟨_, y⟩, ⟨_, z⟩] h (ValueIdx.ix2 c n) 1 (by simp) _ y rfl rfl a rfl (ValueIdx.ix2 c ⟨n.val - a, h2⟩) (by
        intro d hd; match d, hd with
        | ⟨0, _⟩, _ => rfl
        | ⟨1, _⟩, hd => exact absurd rfl hd) (by show a + (n.val - a) = n.val; omega)
    · next h1 h2 =>
      exact concatenate_apply_piece (t := (⟨2, ![C, N]⟩ : Shape)) 1 [⟨_, x⟩, ⟨_, y⟩, ⟨_, z⟩] h (ValueIdx.ix2 c n) 2 (by simp) _ z rfl rfl (a + m) rfl (ValueIdx.ix2 c ⟨n.val - a - m, _⟩) (by
        intro d hd; match d, hd with
        | ⟨0, _⟩, _ => rfl
        | ⟨1, _⟩, hd => exact absurd rfl hd) (by show a + m + (n.val - a - m) = n.val; omega)

/-- The remainder by 384 of a column number, as signed words compute it with a correction for negative values. -/
theorem col_word (n : ℕ) (hn : n < 2 ^ 31) :
    Scalar.select
      (IntOp.andi
        (IntOp.xori (IntOp.cmpi .slt (IntOp.remsi .vector (BitVec.ofNat 32 n) (Scalar.select (Scalar.cmpi .eq 384#32 0#32) 1#32 384#32)) 0#32)
          (Scalar.cmpi .slt (Scalar.select (Scalar.cmpi .eq 384#32 0#32) 1#32 384#32) 0#32))
        (IntOp.cmpi .ne (IntOp.remsi .vector (BitVec.ofNat 32 n) (Scalar.select (Scalar.cmpi .eq 384#32 0#32) 1#32 384#32)) 0#32))
      (IntOp.addi (IntOp.remsi .vector (BitVec.ofNat 32 n) (Scalar.select (Scalar.cmpi .eq 384#32 0#32) 1#32 384#32))
        (Scalar.select (Scalar.cmpi .eq 384#32 0#32) 1#32 384#32))
      (IntOp.remsi .vector (BitVec.ofNat 32 n) (Scalar.select (Scalar.cmpi .eq 384#32 0#32) 1#32 384#32))
    = BitVec.ofNat 32 (n % 384) := by
  have hs : Scalar.select (Scalar.cmpi .eq 384#32 0#32) 1#32 384#32 = 384#32 := rfl
  have hr : IntOp.remsi .vector (BitVec.ofNat 32 n) 384#32 = BitVec.ofNat 32 (n % 384) := Routing.remsi_word .vector hn (by decide) (by decide)
  rw [hs, hr]
  have hlt : n % 384 < 384 := Nat.mod_lt _ (by decide)
  generalize n % 384 = m at hlt
  clear hr hs hn
  have h0 : IntOp.cmpi .slt (BitVec.ofNat 32 m) 0#32 = 0#1 := by
    revert m; decide
  rw [h0]
  have : ∀ b : BitVec 1, IntOp.andi (IntOp.xori 0#1 (Scalar.cmpi .slt 384#32 0#32)) b = 0#1 := by decide
  rw [this]
  rfl

/-- Comparing such a remainder with a small literal. -/
theorem col_eq (n k : ℕ) (hk : k < 384) :
    IntOp.cmpi .eq (BitVec.ofNat 32 (n % 384)) (BitVec.ofNat 32 k) = 1#1 ↔ n % 384 = k := by
  have hlt : n % 384 < 384 := Nat.mod_lt _ (by decide)
  generalize n % 384 = m at hlt
  have : BitVec.ofNat 32 m = BitVec.ofNat 32 k ↔ m = k := by
    rw [← BitVec.toNat_inj, BitVec.toNat_ofNat, BitVec.toNat_ofNat, Nat.mod_eq_of_lt (by omega), Nat.mod_eq_of_lt (by omega)]
  rw [← this]
  unfold IntOp.cmpi
  by_cases e : BitVec.ofNat 32 m = BitVec.ofNat 32 k
  · simp [e]
  · simp [e, beq_eq_false_iff_ne.mpr e]

end Cert.Layout

end
-- ==== Proof.KernelFirst.lean ====
/-
  The kernel's first half on one block of 32 rows: the 36 rows of the image it assembles, their two neighbours, and the
  first convolution's 34 rows.
-/
module

public import proofs.«01_k».proof.Proof.Gen.KernelIdeal.Skeleton
public import proofs.«01_k».proof.Proof.Spec
public import proofs.«01_k».proof.Proof.Layout

@[expose] public section

set_option maxRecDepth 16384

noncomputable section

namespace Cert.KernelFirst

open Idealize.ShloMosaic Cert.KernelIdeal Cert.KernelIdeal.Gen Cert.Spec Cert.Layout

/-! ## Column numbers -/

/-- The column numbers of the input rows: a position along the flattened rows, modulo the row length. -/
theorem pay3_at (n : Fin 13824) : k0_pay3 (ValueIdx.ix2 0 n) = BitVec.ofNat 32 (n.val % 384) := by
  refine Eq.trans ?_ (col_word n.val (by have := n.isLt; omega))
  unfold k0_pay3
  pointwise []

/-- The column numbers of the first hidden rows. -/
theorem pay11_at (n : Fin 13056) : k0_pay11 (ValueIdx.ix2 0 n) = BitVec.ofNat 32 (n.val % 384) := by
  refine Eq.trans ?_ (col_word n.val (by have := n.isLt; omega))
  unfold k0_pay11
  pointwise []

/-- The mask of the first column. -/
theorem pay4_at (n : Fin 13824) : k0_pay4 (ValueIdx.ix2 0 n) = 1#1 ↔ n.val % 384 = 0 := by
  refine Iff.trans (Eq.congr_left ?_) (col_eq n.val 0 (by decide))
  exact congrArg (fun w => IntOp.cmpi .eq w 0#32) (pay3_at n)

/-! ## The 36 rows of the image -/

variable {C N R : ℕ}

/-- Rows of a block laid out flat. -/
theorem rows_flat (hN : N = R * 384) (v : (⟨4, ![1, C, R, 384]⟩ : Shape).Idx → EReal)
    (h1 : (⟨4, ![1, C, R, 384]⟩ : Shape).ShapeCasts ⟨3, ![C, R, 384]⟩)
    (h2 : (⟨3, ![C, R, 384]⟩ : Shape).ShapeCasts ⟨2, ![C, N]⟩) (c : Fin C) (n : Fin N) :
    shapeCast (⟨2, ![C, N]⟩ : Shape) (shapeCast (⟨3, ![C, R, 384]⟩ : Shape) v h1) h2 (ValueIdx.ix2 c n)
      = v (ValueIdx.ix4 0 c ⟨n.val / 384, by have := n.isLt; omega⟩ ⟨n.val % 384, Nat.mod_lt _ (by decide)⟩) := by
  subst hN
  have hlt : n.val / 384 < R := by have := n.isLt; omega
  rw [shapeCast_apply _ h2 (ValueIdx.ix2 c n) (ValueIdx.ix3 c ⟨n.val / 384, hlt⟩ ⟨n.val % 384, Nat.mod_lt _ (by decide)⟩) (by
      rw [Shape.rowMajor_val_two, Shape.rowMajor_val_three]
      show (c.val * R + n.val / 384) * 384 + n.val % 384 = c.val * (R * 384) + n.val
      rw [Nat.add_mul, ← Nat.mul_assoc]
      omega),
    shapeCast_apply v h1 _ (ValueIdx.ix4 0 c ⟨n.val / 384, hlt⟩ ⟨n.val % 384, Nat.mod_lt _ (by decide)⟩) (by
      rw [Shape.rowMajor_val_three, Shape.rowMajor_val_four]
      show ((0 * C + c.val) * R + n.val / 384) * 384 + n.val % 384 = (c.val * R + n.val / 384) * 384 + n.val % 384
      rw [Nat.zero_mul, Nat.zero_add])]

/-- A row block with two rows above and two below, each replaced by zeros at the image's edge, is 36 consecutive rows. -/
theorem pay2_flat (i : grid0.Coords) (v1 v7 : Vec Ideal S1x96x2x384 .f32) (v12 : Vec Ideal S1x96x32x384 .f32)
    (f : Fin 96 → ℤ → ℤ → EReal) (hlo : ∀ c Y X, Y < 0 → f c Y X = 0) (hhi : ∀ c Y X, 384 ≤ Y → f c Y X = 0)
    (h1 : (i 1).val ≠ 0 → ∀ (c : Fin 96) (r : Fin 2) (q : Fin 384), v1 (ValueIdx.ix4 0 c r q) = f c (32 * (i 1).val - 2 + r.val) q.val)
    (h7 : (i 1).val ≠ 11 → ∀ (c : Fin 96) (r : Fin 2) (q : Fin 384), v7 (ValueIdx.ix4 0 c r q) = f c (32 * (i 1).val + 32 + r.val) q.val)
    (h12 : ∀ (c : Fin 96) (r : Fin 32) (q : Fin 384), v12 (ValueIdx.ix4 0 c r q) = f c (32 * (i 1).val + r.val) q.val) :
    Flat (32 * ((i 1).val : ℤ) - 2) f (k0_pay2 i v1 v7 v12) := by
  intro c n
  have hi : (i 1).val < 12 := (i 1).isLt
  unfold k0_pay2
  refine (concat_three _ _ _ concatenates_S96x768_S96x12288_S96x768_S96x13824_d1 c n).trans ?_
  split
  · next ha =>
    have e : n.val / 384 < 2 := by omega
    by_cases hz : (i 1).val = 0
    · rw [hlo _ _ _ (by rw [hz]; omega)]
      unfold Scalar.select
      rw [if_pos (by rw [hz]; rfl)]
      exact Ideal.ofBits_zero_f32
    · unfold Scalar.select
      rw [if_neg (by revert hz hi; generalize (i 1).val = k; intro hz hi; revert k; decide)]
      refine (rows_flat (R := 2) (by norm_num) v1 _ _ c ⟨n.val, ha⟩).trans ((h1 hz c ⟨n.val / 384, e⟩ ⟨n.val % 384, Nat.mod_lt _ (by decide)⟩).trans ?_)
      rfl
  · split
    · next ha hb =>
      refine (rows_flat (R := 32) (by norm_num) v12 _ _ c ⟨n.val - 768, hb⟩).trans ((h12 c ⟨(n.val - 768) / 384, by omega⟩ ⟨(n.val - 768) % 384, Nat.mod_lt _ (by decide)⟩).trans ?_)
      exact congrArg₂ (f c) (by simp only; omega) (by simp only; omega)
    · next ha hb =>
      have hn := n.isLt
      by_cases hz : (i 1).val = 11
      · rw [hhi _ _ _ (by rw [hz]; omega)]
        unfold Scalar.select
        rw [if_pos (by rw [hz]; rfl)]
        exact Ideal.ofBits_zero_f32
      · unfold Scalar.select
        rw [if_neg (by revert hz hi; generalize (i 1).val = k; intro hz hi; revert k; decide)]
        refine (rows_flat (R := 2) (by norm_num) v7 _ _ c ⟨n.val - 768 - 12288, by omega⟩).trans
          ((h7 hz c ⟨(n.val - 768 - 12288) / 384, by omega⟩ ⟨(n.val - 768 - 12288) % 384, Nat.mod_lt _ (by decide)⟩).trans ?_)
        exact congrArg₂ (f c) (by simp only; omega) (by simp only; omega)

/-! ## Neighbours -/

/-- The left neighbours of the input rows, zero before the first column. -/
theorem pay5_flat {y0 : ℤ} {f : Fin 96 → ℤ → ℤ → EReal} {v : FVec Ideal S96x13824 .f32} (h : Flat y0 f v)
    (hf : ∀ c Y, f c Y (-1) = 0) : Flat y0 (fun c Y X => f c Y (X - 1)) (k0_pay5 v k0_pay4) :=
  h.left hf k0_pay4 pay4_at 13823 slices_S96x13824_o0_13823_S96x1 slices_S96x13824_o0_0_S96x13823
    concatenates_S96x1_S96x13823_S96x13824_d1 shapeCasts_S1x13824_S1x13824 broadcasts_S1x13824_S96x13824 (by decide)

/-- The right neighbours of the input rows, zero after the last column. -/
theorem pay6_flat {y0 : ℤ} {f : Fin 96 → ℤ → ℤ → EReal} {v : FVec Ideal S96x13824 .f32} (h : Flat y0 f v)
    (hf : ∀ c Y, f c Y 384 = 0) : Flat y0 (fun c Y X => f c Y (X + 1)) (k0_pay6 v k0_pay3) :=
  h.right hf (cmpi .eq k0_pay3 (broadcast S1x13824 383#32))
    (fun n => (Eq.congr_left (congrArg (fun w => IntOp.cmpi .eq w 383#32) (pay3_at n))).trans (col_eq n.val 383 (by decide)))
    (by decide) slices_S96x13824_o0_1_S96x13823 slices_S96x13824_o0_0_S96x1
    concatenates_S96x13823_S96x1_S96x13824_d1 shapeCasts_S1x13824_S1x13824 broadcasts_S1x13824_S96x13824 (by decide)

/-! ## The first convolution -/

/-- The weights of one tap, as the kernel loads them. -/
def IsTap (w : (⟨4, ![64, 96, 3, 3]⟩ : Shape).Idx → EReal) (dy dx : Fin 3) (v : Vec Ideal S1x1x64x96 .f32) : Prop :=
  ∀ (o : Fin 64) (k : Fin 96), v (ValueIdx.ix4 0 0 o k) = w (ValueIdx.ix4 o k dy dx)

/-- One of the nine products is a tap of the convolution. -/
theorem dot_tap {y0 : ℤ} {f : Fin 96 → ℤ → ℤ → EReal} {w : (⟨4, ![64, 96, 3, 3]⟩ : Shape).Idx → EReal} {dy dx : Fin 3}
    {x : FVec Ideal S96x13824 .f32} {v : Vec Ideal S1x1x64x96 .f32} (hx : Flat (y0 - 1) (fun k Y X => f k Y (X + dx.val - 1)) x)
    (hv : IsTap w dy dx v) (off : ℕ) (ho : off = 384 * dy.val) (hs : S96x13824.Slices ![0, off] S96x13056) (o : Fin 64) (n : Fin 13056) :
    matmul dot_S64x96_S96x13056_S64x13056_1_0_0_1_n_n (φ₁ := .f32) (φ₂ := .f32) none (shapeCast S64x96 v shapeCasts_S1x1x64x96_S64x96)
        (extractStridedSlice S96x13056 ![0, off] x hs) (constant (F := Ideal) S64x13056 .f32 0x00000000#32) (ValueIdx.ix2 o n)
      = tap w f o dy dx (y0 + ((n.val / 384 : ℕ) : ℤ)) ((n.val % 384 : ℕ) : ℤ) := by
  generalize hy : extractStridedSlice S96x13056 ![0, off] x hs = y
  generalize hu : shapeCast S64x96 v shapeCasts_S1x1x64x96_S64x96 = u
  have hy' : Flat (y0 - 1 + (dy.val : ℤ)) (fun k Y X => f k Y (X + dx.val - 1)) y := hy ▸ hx.slice off dy.val ho hs
  have hu' : ∀ (o : Fin 64) (k : Fin 96), u (ValueIdx.ix2 o k) = w (ValueIdx.ix4 o k dy dx) := by
    intro o k
    rw [← hu, shapeCast_apply v _ (ValueIdx.ix2 o k) (ValueIdx.ix4 0 0 o k) (by
      rw [Shape.rowMajor_val_two, Shape.rowMajor_val_four]
      show ((0 * 1 + 0) * 64 + o.val) * 96 + k.val = o.val * 96 + k.val
      omega), hv]
  have e : matmul dot_S64x96_S96x13056_S64x13056_1_0_0_1_n_n (φ₁ := .f32) (φ₂ := .f32) none u y (constant (F := Ideal) S64x13056 .f32 0x00000000#32) (ValueIdx.ix2 o n)
      = ∑ k : Fin 96, u (ValueIdx.ix2 o k) * y (ValueIdx.ix2 k n) := by
    pointwise []; rfl
  rw [e]
  unfold tap
  refine Finset.sum_congr rfl fun k _ => ?_
  rw [hu', hy' k n]
  congr 2
  ring

/-- The first convolution's 34 rows. -/
theorem pay8_flat {y0 : ℤ} {f : Fin 96 → ℤ → ℤ → EReal} {w : (⟨4, ![64, 96, 3, 3]⟩ : Shape).Idx → EReal}
    {b : (⟨1, ![64]⟩ : Shape).Idx → EReal} {x : FVec Ideal S96x13824 .f32} (hx : Flat (y0 - 1) f x)
    (hf0 : ∀ c Y, f c Y (-1) = 0) (hf1 : ∀ c Y, f c Y 384 = 0) {v00 v01 v02 v10 v11 v12 v20 v21 v22 : Vec Ideal S1x1x64x96 .f32}
    {vb : Vec Ideal S64x1 .f32} (h00 : IsTap w 0 0 v00) (h01 : IsTap w 0 1 v01) (h02 : IsTap w 0 2 v02) (h10 : IsTap w 1 0 v10)
    (h11 : IsTap w 1 1 v11) (h12 : IsTap w 1 2 v12) (h20 : IsTap w 2 0 v20) (h21 : IsTap w 2 1 v21) (h22 : IsTap w 2 2 v22)
    (hb : ∀ o : Fin 64, vb (ValueIdx.ix2 o 0) = b (ValueIdx.ix1 o)) :
    Flat y0 (conv w b f)
      (k0_pay8 x (k0_pay5 x k0_pay4) (k0_pay6 x k0_pay3) (k0_pay7 x k0_pay3 k0_pay4 v00 v01 v02 v10) v11 v12 v20 v21 v22 vb) := by
  intro o n
  have hl : Flat (y0 - 1) (fun k Y X => f k Y (X + (0 : Fin 3).val - 1)) (k0_pay5 x k0_pay4) :=
    (pay5_flat hx hf0).congr fun c Y X => by congr 1; simp
  have hc : Flat (y0 - 1) (fun k Y X => f k Y (X + (1 : Fin 3).val - 1)) x :=
    hx.congr fun c Y X => by congr 1; simp
  have hr : Flat (y0 - 1) (fun k Y X => f k Y (X + (2 : Fin 3).val - 1)) (k0_pay6 x k0_pay3) :=
    (pay6_flat hx hf1).congr fun c Y X => by congr 1; simp only [Fin.val_two]; push_cast; ring
  have eb : broadcastTo S64x13056 (shapeCast S64x1 vb shapeCasts_S64x1_S64x1) broadcasts_S64x1_S64x13056 (ValueIdx.ix2 o n) = b (ValueIdx.ix1 o) := by
    rw [shapeCast_self, broadcastTo_apply vb _ (ValueIdx.ix2 o n) (ValueIdx.ix2 o 0) (by
      intro a; match a with
      | ⟨0, _⟩ => rfl
      | ⟨1, _⟩ => rfl), hb]
  unfold conv
  rw [← dot_tap hl h00 0 rfl slices_S96x13824_o0_0_S96x13056 o n, ← dot_tap hc h01 0 rfl slices_S96x13824_o0_0_S96x13056 o n,
    ← dot_tap hr h02 0 rfl slices_S96x13824_o0_0_S96x13056 o n, ← dot_tap hl h10 384 rfl slices_S96x13824_o0_384_S96x13056 o n,
    ← dot_tap hc h11 384 rfl slices_S96x13824_o0_384_S96x13056 o n, ← dot_tap hr h12 384 rfl slices_S96x13824_o0_384_S96x13056 o n,
    ← dot_tap hl h20 768 rfl slices_S96x13824_o0_768_S96x13056 o n, ← dot_tap hc h21 768 rfl slices_S96x13824_o0_768_S96x13056 o n,
    ← dot_tap hr h22 768 rfl slices_S96x13824_o0_768_S96x13056 o n, ← eb]
  rw [← Ideal.ofBits_zero_f32]
  rfl

end Cert.KernelFirst

end
-- ==== Proof.KernelSecond.lean ====
/-
  The kernel's second convolution on one block of 32 rows, and the 1 by 1 convolution after it: the first hidden layer
  clipped to the image, its neighbours stacked in pairs of 64 channels, five products over 128 channels.
-/
module

public import proofs.«01_k».proof.Proof.KernelFirst

@[expose] public section

set_option maxRecDepth 16384

noncomputable section

namespace Cert.KernelSecond

open Idealize.ShloMosaic Cert.KernelIdeal Cert.KernelIdeal.Gen Cert.Spec Cert.Layout Cert.KernelFirst

/-! ## Clipping the first hidden layer -/

/-- Inside the image clipping is the relu. -/
theorem clip_in {g : ℤ → ℤ → EReal} {Y X : ℤ} (h0 : 0 ≤ Y) (h1 : Y < 384) (h2 : 0 ≤ X) (h3 : X < 384) : clip g Y X = g Y X :=
  if_pos ⟨h0, h1, h2, h3⟩

/-- Clipping vanishes just left of the image. -/
theorem clip_left (g : ℤ → ℤ → EReal) (Y : ℤ) : clip g Y (-1) = 0 := if_neg (by rintro ⟨_, _, h, _⟩; omega)

/-- Clipping vanishes just right of the image. -/
theorem clip_right (g : ℤ → ℤ → EReal) (Y : ℤ) : clip g Y 384 = 0 := if_neg (by rintro ⟨_, _, _, h⟩; omega)

/-- The first and the last of the 34 rows replaced by zeros at the image's edge: the layer clipped to the image. -/
theorem pay10_flat (i : ℕ) (hi : i < 12) {g : Fin 64 → ℤ → ℤ → EReal} {v : FVec Ideal S64x13056 .f32}
    (h : Flat (32 * (i : ℤ) - 1) g v) :
    Flat (32 * (i : ℤ) - 1) (fun k => clip (g k))
      (k0_pay10 (BitVec.ofNat 32 i) v (Scalar.cmpi .eq (BitVec.ofNat 32 i) 0#32)
        (extractStridedSlice S64x384 ![0, 0] v slices_S64x13056_o0_0_S64x384)) := by
  intro c n
  have hn := n.isLt
  have hx : n.val % 384 < 384 := Nat.mod_lt _ (by decide)
  unfold k0_pay10
  refine (concat_three _ _ _ concatenates_S64x384_S64x12288_S64x384_S64x13056_d1 c n).trans ?_
  have sl0 := h.slice (M := 384) 0 0 rfl slices_S64x13056_o0_0_S64x384
  have sl1 := h.slice (M := 12288) 384 1 rfl slices_S64x13056_o0_384_S64x12288
  have sl2 := h.slice (M := 384) 12672 33 rfl slices_S64x13056_o0_12672_S64x384
  split
  · next ha =>
    by_cases hz : i = 0
    · unfold Scalar.select
      rw [if_pos (by rw [hz]; rfl)]
      refine Eq.trans Ideal.ofBits_zero_f32 (Eq.symm (if_neg ?_))
      rintro ⟨h0, _⟩; omega
    · unfold Scalar.select
      rw [if_neg (by revert hz hi; clear h sl0 sl1 sl2; intro hi hz; revert i; decide)]
      refine Eq.trans ?_ (clip_in (g := g c) (Y := 32 * (i : ℤ) - 1 + ((n.val / 384 : ℕ) : ℤ)) (X := ((n.val % 384 : ℕ) : ℤ))
        (by omega) (by omega) (by omega) (by omega)).symm
      exact (sl0 c ⟨n.val, ha⟩).trans (congrArg₂ (g c) (by simp only; omega) (by simp only))
  · split
    · next ha hb =>
      refine Eq.trans ?_ (clip_in (g := g c) (Y := 32 * (i : ℤ) - 1 + ((n.val / 384 : ℕ) : ℤ)) (X := ((n.val % 384 : ℕ) : ℤ))
        (by omega) (by omega) (by omega) (by omega)).symm
      exact (sl1 c ⟨n.val - 384, hb⟩).trans (congrArg₂ (g c) (by simp only; omega) (by simp only; omega))
    · next ha hb =>
      by_cases hz : i = 11
      · unfold Scalar.select
        rw [if_pos (by rw [hz]; rfl)]
        refine Eq.trans Ideal.ofBits_zero_f32 (Eq.symm (if_neg ?_))
        rintro ⟨_, h0, _⟩; omega
      · unfold Scalar.select
        rw [if_neg (by revert hz hi; clear h sl0 sl1 sl2; intro hi hz; revert i; decide)]
        refine Eq.trans ?_ (clip_in (g := g c) (Y := 32 * (i : ℤ) - 1 + ((n.val / 384 : ℕ) : ℤ)) (X := ((n.val % 384 : ℕ) : ℤ))
          (by omega) (by omega) (by omega) (by omega)).symm
        exact (sl2 c ⟨n.val - 384 - 12288, by omega⟩).trans (congrArg₂ (g c) (by simp only; omega) (by simp only; omega))

/-! ## Neighbours and stacks -/

section Stack

variable {y0 : ℤ} {f : Fin 64 → ℤ → ℤ → EReal} {arg1 : BitVec 32} {v : FVec Ideal S64x13056 .f32} {s : BitVec 1} {t : FVec Ideal S64x384 .f32}

/-- The right neighbours of the first hidden rows, zero after the last column. -/
theorem pay12_flat (h : Flat y0 f (k0_pay10 arg1 v s t)) (hf : ∀ c Y, f c Y 384 = 0) :
    Flat y0 (fun c Y X => f c Y (X + 1)) (k0_pay12 arg1 v s t) :=
  h.right hf (cmpi .eq k0_pay11 (broadcast S1x13056 383#32))
    (fun n => (Eq.congr_left (congrArg (fun w => IntOp.cmpi .eq w 383#32) (pay11_at n))).trans (col_eq n.val 383 (by decide)))
    (by decide) slices_S64x13056_o0_1_S64x13055 slices_S64x13056_o0_0_S64x1
    concatenates_S64x13055_S64x1_S64x13056_d1 shapeCasts_S1x13056_S1x13056 broadcasts_S1x13056_S64x13056 (by decide)

/-- The first stack: left neighbours over the layer itself. -/
theorem pay13_eq (h : Flat y0 f (k0_pay10 arg1 v s t)) (hf : ∀ c Y, f c Y (-1) = 0) :
    ∃ l : FVec Ideal S64x13056 .f32, Flat y0 (fun c Y X => f c Y (X - 1)) l ∧
      k0_pay13 arg1 v s t = concatenate S128x13056 0 [⟨S64x13056, l⟩, ⟨S64x13056, k0_pay10 arg1 v s t⟩]
        concatenates_S64x13056_S64x13056_S128x13056_d0 :=
  ⟨_, h.left hf (cmpi .eq k0_pay11 (broadcast S1x13056 0#32))
    (fun n => (Eq.congr_left (congrArg (fun w => IntOp.cmpi .eq w 0#32) (pay11_at n))).trans (col_eq n.val 0 (by decide)))
    13055 slices_S64x13056_o0_13055_S64x1 slices_S64x13056_o0_0_S64x13055
    concatenates_S64x1_S64x13055_S64x13056_d1 shapeCasts_S1x13056_S1x13056 broadcasts_S1x13056_S64x13056 (by decide), rfl⟩

/-- The right neighbours one row further down, where that row exists. -/
theorem pay14_at (k : Fin 64) (n : Fin 13056) (hn : n.val < 12672) :
    k0_pay14 arg1 v s t (ValueIdx.ix2 k n) = k0_pay12 arg1 v s t (ValueIdx.ix2 k ⟨384 + n.val, by omega⟩) := by
  unfold k0_pay14
  refine (concatenate_pair_apply_left 1 _ _ concatenates_S64x12672_S64x384_S64x13056_d1 (ValueIdx.ix2 k n) rfl (ValueIdx.ix2 k ⟨n.val, hn⟩) (by
    intro b; match b with
    | ⟨0, _⟩ => rfl
    | ⟨1, _⟩ => rfl)).trans ?_
  exact extractStridedSlice_apply ![0, 384] (k0_pay12 arg1 v s t) slices_S64x13056_o0_384_S64x12672 (ValueIdx.ix2 k ⟨n.val, hn⟩)
    (ValueIdx.ix2 k ⟨384 + n.val, by omega⟩) (by
    intro a; match a with
    | ⟨0, _⟩ => exact (Nat.zero_add _).symm
    | ⟨1, _⟩ => rfl)

end Stack

/-- A pair of 64 by 64 weights side by side, as the kernel loads them. -/
def IsPair (wa wb : Fin 64 → Fin 64 → EReal) (v : Vec Ideal S1x64x128 .f32) : Prop :=
  (∀ o k : Fin 64, v (ValueIdx.ix3 0 o (Fin.castAdd 64 k)) = wa o k) ∧ ∀ o k : Fin 64, v (ValueIdx.ix3 0 o (Fin.natAdd 64 k)) = wb o k

/-- A product over 128 stacked channels is the sum of the two products over 64. -/
theorem dot_pair {wa wb : Fin 64 → Fin 64 → EReal} {v : Vec Ideal S1x64x128 .f32} (hv : IsPair wa wb v)
    (a b : FVec Ideal S64x13056 .f32) (off : ℕ) (ho : off ≤ 768) (hs : S128x13056.Slices ![0, off] S128x12288) (o : Fin 64) (n : Fin 12288) :
    matmul dot_S64x128_S128x12288_S64x12288_1_0_0_1_n_n (φ₁ := .f32) (φ₂ := .f32) none (shapeCast S64x128 v shapeCasts_S1x64x128_S64x128)
        (extractStridedSlice S128x12288 ![0, off]
          (concatenate S128x13056 0 [⟨S64x13056, a⟩, ⟨S64x13056, b⟩] concatenates_S64x13056_S64x13056_S128x13056_d0) hs)
        (constant (F := Ideal) S64x12288 .f32 0x00000000#32) (ValueIdx.ix2 o n)
      = (∑ k : Fin 64, wa o k * a (ValueIdx.ix2 k ⟨off + n.val, by have := n.isLt; omega⟩))
        + ∑ k : Fin 64, wb o k * b (ValueIdx.ix2 k ⟨off + n.val, by have := n.isLt; omega⟩) := by
  have hlt : off + n.val < 13056 := by have := n.isLt; omega
  generalize hu : shapeCast S64x128 v shapeCasts_S1x64x128_S64x128 = u
  have hu' : ∀ (o : Fin 64) (k : Fin 128), u (ValueIdx.ix2 o k) = v (ValueIdx.ix3 0 o k) := by
    intro o k
    rw [← hu, shapeCast_apply v _ (ValueIdx.ix2 o k) (ValueIdx.ix3 0 o k) (by
      rw [Shape.rowMajor_val_two, Shape.rowMajor_val_three]
      show (0 * 64 + o.val) * 128 + k.val = o.val * 128 + k.val
      omega)]
  generalize hc : concatenate S128x13056 0 [⟨S64x13056, a⟩, ⟨S64x13056, b⟩] concatenates_S64x13056_S64x13056_S128x13056_d0 = c
  have ha : ∀ (k : Fin 64) (m : Fin 13056), c (ValueIdx.ix2 (Fin.castAdd 64 k) m) = a (ValueIdx.ix2 k m) := by
    intro k m
    rw [← hc]
    exact concatenate_pair_apply_left (t := S128x13056) 0 a b _ (ValueIdx.ix2 (Fin.castAdd 64 k) m) rfl (ValueIdx.ix2 k m) (by
      intro d; match d with
      | ⟨0, _⟩ => rfl
      | ⟨1, _⟩ => rfl)
  have hb : ∀ (k : Fin 64) (m : Fin 13056), c (ValueIdx.ix2 (Fin.natAdd 64 k) m) = b (ValueIdx.ix2 k m) := by
    intro k m
    rw [← hc]
    exact concatenate_pair_apply_right (t := S128x13056) 0 a b _ (ValueIdx.ix2 (Fin.natAdd 64 k) m) rfl rfl (ValueIdx.ix2 k m) (by
      intro d hd; match d, hd with
      | ⟨0, _⟩, hd => exact absurd rfl hd
      | ⟨1, _⟩, _ => rfl) (Nat.add_comm _ _)
  generalize hy : extractStridedSlice S128x12288 ![0, off] c hs = y
  have hy' : ∀ k : Fin 128, y (ValueIdx.ix2 k n) = c (ValueIdx.ix2 k ⟨off + n.val, hlt⟩) := by
    intro k
    rw [← hy]
    exact extractStridedSlice_apply ![0, off] c hs (ValueIdx.ix2 k n) (ValueIdx.ix2 k ⟨off + n.val, hlt⟩) (by
      intro d; match d with
      | ⟨0, _⟩ => exact (Nat.zero_add _).symm
      | ⟨1, _⟩ => rfl)
  have e : matmul dot_S64x128_S128x12288_S64x12288_1_0_0_1_n_n (φ₁ := .f32) (φ₂ := .f32) none u y
      (constant (F := Ideal) S64x12288 .f32 0x00000000#32) (ValueIdx.ix2 o n)
      = ∑ k : Fin (64 + 64), u (ValueIdx.ix2 o k) * y (ValueIdx.ix2 k n) := by
    pointwise []; rfl
  rw [e, Fin.sum_univ_add]
  congr 1
  · exact Finset.sum_congr rfl fun k _ => by rw [hu', hy', ha, hv.1]
  · exact Finset.sum_congr rfl fun k _ => by rw [hu', hy', hb, hv.2]

/-! ## The second convolution and the products for the logits -/

/-- One tap's weights as a function of the two channels. -/
def wt (w : (⟨4, ![64, 64, 3, 3]⟩ : Shape).Idx → EReal) (dy dx : Fin 3) (o k : Fin 64) : EReal := w (ValueIdx.ix4 o k dy dx)

/-- A sum of one tap's weights against the shifted image is that tap of the convolution. -/
theorem sum_tap {w : (⟨4, ![64, 64, 3, 3]⟩ : Shape).Idx → EReal} {f : Fin 64 → ℤ → ℤ → EReal} (o : Fin 64) (dy dx : Fin 3) (Y X : ℤ)
    (a : Fin 64 → EReal) (ha : ∀ k, a k = f k (Y + dy.val - 1) (X + dx.val - 1)) : ∑ k, wt w dy dx o k * a k = tap w f o dy dx Y X :=
  Finset.sum_congr rfl fun k _ => by rw [ha]; rfl

/-- The kernel's second and third products, read at a channel and a position: the logit before its bias. -/
theorem pay15_at {y0 : ℤ} {f : Fin 64 → ℤ → ℤ → EReal} {arg1 : BitVec 32} {v : FVec Ideal S64x13056 .f32} {s : BitVec 1}
    {t : FVec Ideal S64x384 .f32} (h : Flat (y0 - 1) f (k0_pay10 arg1 v s t)) (hf0 : ∀ c Y, f c Y (-1) = 0) (hf1 : ∀ c Y, f c Y 384 = 0)
    {w : (⟨4, ![64, 64, 3, 3]⟩ : Shape).Idx → EReal} {b : (⟨1, ![64]⟩ : Shape).Idx → EReal} {w3 : (⟨4, ![96, 64, 1, 1]⟩ : Shape).Idx → EReal}
    {p0 p1 p2 r0 r1 : Vec Ideal S1x64x128 .f32} {vb : Vec Ideal S64x1 .f32} {u : Vec Ideal S96x64 .f32}
    (hp0 : IsPair (wt w 0 0) (wt w 0 1) p0) (hp1 : IsPair (wt w 1 0) (wt w 1 1) p1) (hp2 : IsPair (wt w 2 0) (wt w 2 1) p2)
    (hr0 : IsPair (wt w 0 2) (wt w 1 2) r0) (hr1 : IsPair (wt w 2 2) (fun _ _ => 0) r1)
    (hb : ∀ o : Fin 64, vb (ValueIdx.ix2 o 0) = b (ValueIdx.ix1 o))
    (hu : ∀ (c : Fin 96) (k : Fin 64), u (ValueIdx.ix2 c k) = w3 (ValueIdx.ix4 c k 0 0)) (c : Fin 96) (n : Fin 12288) :
    k0_pay15 (k0_pay12 arg1 v s t) (k0_pay13 arg1 v s t) (k0_pay14 arg1 v s t) p0 p1 p2 r0 r1 vb u (ValueIdx.ix2 c n)
      = ∑ k : Fin 64, w3 (ValueIdx.ix4 c k 0 0) * conv w b f k (y0 + ((n.val / 384 : ℕ) : ℤ)) ((n.val % 384 : ℕ) : ℤ) := by
  have hR := pay12_flat h hf1
  obtain ⟨l, hl, e13⟩ := pay13_eq h hf0
  have hn := n.isLt
  rw [e13]
  unfold k0_pay15
  have key : ∀ o : Fin 64, conv w b f o (y0 + ((n.val / 384 : ℕ) : ℤ)) ((n.val % 384 : ℕ) : ℤ)
      = max (((((matmul dot_S64x128_S128x12288_S64x12288_1_0_0_1_n_n (φ₁ := .f32) (φ₂ := .f32) none (shapeCast S64x128 p0 shapeCasts_S1x64x128_S64x128)
        (extractStridedSlice S128x12288 ![0, 0]
          (concatenate S128x13056 0 [⟨S64x13056, l⟩, ⟨S64x13056, k0_pay10 arg1 v s t⟩] concatenates_S64x13056_S64x13056_S128x13056_d0) slices_S128x13056_o0_0_S128x12288)
        (constant (F := Ideal) S64x12288 .f32 0x00000000#32) (ValueIdx.ix2 o n)
        + matmul dot_S64x128_S128x12288_S64x12288_1_0_0_1_n_n (φ₁ := .f32) (φ₂ := .f32) none (shapeCast S64x128 p1 shapeCasts_S1x64x128_S64x128)
        (extractStridedSlice S128x12288 ![0, 384]
          (concatenate S128x13056 0 [⟨S64x13056, l⟩, ⟨S64x13056, k0_pay10 arg1 v s t⟩] concatenates_S64x13056_S64x13056_S128x13056_d0) slices_S128x13056_o0_384_S128x12288)
        (constant (F := Ideal) S64x12288 .f32 0x00000000#32) (ValueIdx.ix2 o n))
        + matmul dot_S64x128_S128x12288_S64x12288_1_0_0_1_n_n (φ₁ := .f32) (φ₂ := .f32) none (shapeCast S64x128 p2 shapeCasts_S1x64x128_S64x128)
        (extractStridedSlice S128x12288 ![0, 768]
          (concatenate S128x13056 0 [⟨S64x13056, l⟩, ⟨S64x13056, k0_pay10 arg1 v s t⟩] concatenates_S64x13056_S64x13056_S128x13056_d0) slices_S128x13056_o0_768_S128x12288)
        (constant (F := Ideal) S64x12288 .f32 0x00000000#32) (ValueIdx.ix2 o n))
        + matmul dot_S64x128_S128x12288_S64x12288_1_0_0_1_n_n (φ₁ := .f32) (φ₂ := .f32) none (shapeCast S64x128 r0 shapeCasts_S1x64x128_S64x128)
        (extractStridedSlice S128x12288 ![0, 0]
          (concatenate S128x13056 0 [⟨S64x13056, k0_pay12 arg1 v s t⟩, ⟨S64x13056, k0_pay14 arg1 v s t⟩] concatenates_S64x13056_S64x13056_S128x13056_d0) slices_S128x13056_o0_0_S128x12288)
        (constant (F := Ideal) S64x12288 .f32 0x00000000#32) (ValueIdx.ix2 o n))
        + matmul dot_S64x128_S128x12288_S64x12288_1_0_0_1_n_n (φ₁ := .f32) (φ₂ := .f32) none (shapeCast S64x128 r1 shapeCasts_S1x64x128_S64x128)
        (extractStridedSlice S128x12288 ![0, 768]
          (concatenate S128x13056 0 [⟨S64x13056, k0_pay12 arg1 v s t⟩, ⟨S64x13056, k0_pay14 arg1 v s t⟩] concatenates_S64x13056_S64x13056_S128x13056_d0) slices_S128x13056_o0_768_S128x12288)
        (constant (F := Ideal) S64x12288 .f32 0x00000000#32) (ValueIdx.ix2 o n))
        + broadcastTo S64x12288 (shapeCast S64x1 vb shapeCasts_S64x1_S64x1) broadcasts_S64x1_S64x12288 (ValueIdx.ix2 o n))
        (Ideal.ofBits .f32 0x00000000#32) := by
    intro o
    rw [dot_pair hp0 _ _ 0 (by decide), dot_pair hp1 _ _ 384 (by decide), dot_pair hp2 _ _ 768 (by decide), dot_pair hr0 _ _ 0 (by decide),
      dot_pair hr1 _ _ 768 (by decide), shapeCast_self, broadcastTo_apply vb _ (ValueIdx.ix2 o n) (ValueIdx.ix2 o 0) (by
      intro a; match a with
      | ⟨0, _⟩ => rfl
      | ⟨1, _⟩ => rfl), hb, Ideal.ofBits_zero_f32]
    rw [sum_tap (f := f) o 0 0 (y0 + ((n.val / 384 : ℕ) : ℤ)) ((n.val % 384 : ℕ) : ℤ) _ (fun k => (hl k _).trans (congrArg₂ (f k) (by simp only [Fin.val_zero]; omega) (by simp only [Fin.val_zero]; omega))),
      sum_tap (f := f) o 0 1 (y0 + ((n.val / 384 : ℕ) : ℤ)) ((n.val % 384 : ℕ) : ℤ) _ (fun k => (h k _).trans (congrArg₂ (f k) (by simp only [Fin.val_zero]; omega) (by simp only [Fin.val_one]; omega))),
      sum_tap (f := f) o 1 0 (y0 + ((n.val / 384 : ℕ) : ℤ)) ((n.val % 384 : ℕ) : ℤ) _ (fun k => (hl k _).trans (congrArg₂ (f k) (by simp only [Fin.val_one]; omega) (by simp only [Fin.val_zero]; omega))),
      sum_tap (f := f) o 1 1 (y0 + ((n.val / 384 : ℕ) : ℤ)) ((n.val % 384 : ℕ) : ℤ) _ (fun k => (h k _).trans (congrArg₂ (f k) (by simp only [Fin.val_one]; omega) (by simp only [Fin.val_one]; omega))),
      sum_tap (f := f) o 2 0 (y0 + ((n.val / 384 : ℕ) : ℤ)) ((n.val % 384 : ℕ) : ℤ) _ (fun k => (hl k _).trans (congrArg₂ (f k) (by simp only [Fin.val_two]; omega) (by simp only [Fin.val_zero]; omega))),
      sum_tap (f := f) o 2 1 (y0 + ((n.val / 384 : ℕ) : ℤ)) ((n.val % 384 : ℕ) : ℤ) _ (fun k => (h k _).trans (congrArg₂ (f k) (by simp only [Fin.val_two]; omega) (by simp only [Fin.val_one]; omega))),
      sum_tap (f := f) o 0 2 (y0 + ((n.val / 384 : ℕ) : ℤ)) ((n.val % 384 : ℕ) : ℤ) _ (fun k => (hR k _).trans (congrArg₂ (f k) (by simp only [Fin.val_zero]; omega) (by simp only [Fin.val_two]; omega))),
      sum_tap (f := f) o 1 2 (y0 + ((n.val / 384 : ℕ) : ℤ)) ((n.val % 384 : ℕ) : ℤ) _ (fun k => (pay14_at k ⟨0 + n.val, by omega⟩ (by show 0 + n.val < 12672; omega)).trans ((hR k _).trans
        (congrArg₂ (f k) (by simp only [Fin.val_one]; omega) (by simp only [Fin.val_two]; omega)))),
      sum_tap (f := f) o 2 2 (y0 + ((n.val / 384 : ℕ) : ℤ)) ((n.val % 384 : ℕ) : ℤ) _ (fun k => (hR k _).trans (congrArg₂ (f k) (by simp only [Fin.val_two]; omega) (by simp only [Fin.val_two]; omega))),
      Finset.sum_eq_zero (fun k _ => zero_mul _), add_zero]
    unfold conv
    congr 1
    abel
  rw [shapeCast_self u]
  generalize hm : maximumf (F := Ideal) (φ := .f32) (s := S64x12288) _ _ = hid
  have e : matmul dot_S96x64_S64x12288_S96x12288_1_0_0_1_n_n (φ₁ := .f32) (φ₂ := .f32) none u hid
      (constant (F := Ideal) S96x12288 .f32 0x00000000#32) (ValueIdx.ix2 c n)
      = ∑ k : Fin 64, u (ValueIdx.ix2 c k) * hid (ValueIdx.ix2 k n) := by
    pointwise []; rfl
  refine e.trans (Finset.sum_congr rfl fun k _ => ?_)
  rw [hu, key k, ← hm]
  rfl

end Cert.KernelSecond

end
-- ==== Proof.KernelSelect.lean ====
/-
  The kernel's last part on one block: from the logits of a column of pixels to the selected softmax values (`Spec.pick`).
-/
module

public import proofs.«01_k».proof.Proof.Gen.KernelIdeal.Skeleton
public import proofs.«01_k».proof.Proof.Spec
public import proofs.«01_k».proof.Proof.Layout

@[expose] public section

set_option maxRecDepth 16384

noncomputable section

namespace Cert.KernelSelect

open Idealize.ShloMosaic Cert.KernelIdeal Cert.KernelIdeal.Gen Cert.Spec

/-- The word of minus one. -/
theorem ofBits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul]; norm_num

/-- The largest entry of each column, spread over the column again. -/
def colMax (x : FVec Ideal S96x12288 .f32) : FVec Ideal S96x12288 .f32 :=
  broadcastTo S96x12288 (shapeCast S1x12288 (multiReduction .maximumf [0] S12288 x 0xFF800000#32 reduces_S96x12288_S12288 (.inl rfl) rfl)
    shapeCasts_S12288_S1x12288) broadcasts_S1x12288_S96x12288

/-- A row spread over all channels. -/
theorem spread_at {α : Type} (x : S1x12288.Idx → α) (c : Fin 96) (n : Fin 12288) :
    broadcastTo S96x12288 x broadcasts_S1x12288_S96x12288 (ValueIdx.ix2 c n) = x (ValueIdx.ix2 0 n) :=
  broadcastTo_apply x _ (ValueIdx.ix2 c n) (ValueIdx.ix2 0 n) (by
    intro a; match a with
    | ⟨0, _⟩ => rfl
    | ⟨1, _⟩ => rfl)

/-- The columns' maxima, read at an index. -/
theorem colMax_at (x : FVec Ideal S96x12288 .f32) (c : Fin 96) (n : Fin 12288) :
    colMax x (ValueIdx.ix2 c n) = Finset.univ.sup fun d : Fin 96 => x (ValueIdx.ix2 d n) := by
  unfold colMax
  rw [spread_at, shapeCast_apply _ _ (ValueIdx.ix2 0 n) (ValueIdx.ix1 n) (by
    rw [Shape.rowMajor_val_one, Shape.rowMajor_val_two]
    show n.val = 0 * 12288 + n.val
    omega)]
  have e : multiReduction .maximumf [0] S12288 x 0xFF800000#32 reduces_S96x12288_S12288 (.inl rfl) rfl (ValueIdx.ix1 n)
      = (Finset.univ : Finset (Fin 96)).fold max (Ideal.ofBits .f32 0xFF800000#32) fun d => x (ValueIdx.ix2 d n) := by
    pointwise []; rfl
  rw [e, ofBits_bot]
  rfl

/-- One round of the kernel: entries equal to their column's maximum become minus one. -/
def round (x : FVec Ideal S96x12288 .f32) : FVec Ideal S96x12288 .f32 :=
  select (cmpf .oeq x (colMax x)) (broadcast S96x12288 (Scalar.ofBits (F := Ideal) .f32 0xBF800000#32)) x

/-- A round read at an index is a peeling of the column. -/
theorem round_at (x : FVec Ideal S96x12288 .f32) (c : Fin 96) (n : Fin 12288) :
    round x (ValueIdx.ix2 c n) = peel (fun d => x (ValueIdx.ix2 d n)) c := by
  show (if BitVec.ofBool (decide (x (ValueIdx.ix2 c n) = colMax x (ValueIdx.ix2 c n))) = 1#1 then Ideal.ofBits .f32 0xBF800000#32
    else x (ValueIdx.ix2 c n)) = _
  rw [colMax_at, ofBits_neg_one]
  unfold peel
  refine if_congr ?_ rfl rfl
  by_cases h : x (ValueIdx.ix2 c n) = Finset.univ.sup fun d : Fin 96 => x (ValueIdx.ix2 d n) <;> simp [h]

/-- A round of a whole column. -/
theorem round_col (x : FVec Ideal S96x12288 .f32) (n : Fin 12288) :
    (fun d : Fin 96 => round x (ValueIdx.ix2 d n)) = peel fun d => x (ValueIdx.ix2 d n) := funext fun c => round_at x c n

/-- The kernel's tail in terms of the rounds. -/
def tail (e : FVec Ideal S96x12288 .f32) (ones : FVec Ideal S1x96 .f32) : FVec Ideal S96x12288 .f32 :=
  select (cmpf .oge e (colMax (round (round (round e)))))
    (mulf e (broadcastTo S96x12288 (divf (broadcast S1x12288 (Scalar.ofBits (F := Ideal) .f32 0x3F800000#32))
      (matmul dot_S1x96_S96x12288_S1x12288_1_0_0_1_n_n (φ₁ := .f32) (φ₂ := .f32) none ones e
        (constant (F := Ideal) S1x12288 .f32 0x00000000#32))) broadcasts_S1x12288_S96x12288))
    (broadcast S96x12288 (Scalar.ofBits (F := Ideal) .f32 0x00000000#32))

/-- The stored block is the tail of the exponentials of the biased product. -/
theorem pay16_eq (v : FVec Ideal S96x12288 .f32) (vb : Vec Ideal S96x1 .f32) (ones : Vec Ideal S1x96 .f32) :
    k0_pay16 v vb ones = shapeCast S96x32x384
      (tail (exp (addf v (broadcastTo S96x12288 (shapeCast S96x1 vb shapeCasts_S96x1_S96x1) broadcasts_S96x1_S96x12288)))
        (shapeCast S1x96 ones shapeCasts_S1x96_S1x96)) shapeCasts_S96x12288_S96x32x384 := rfl

/-- A selection by an ordered comparison. -/
theorem select_ge {s : Shape} (a b x y : FVec Ideal s .f32) (j : s.Idx) :
    select (cmpf .oge a b) x y j = if b j ≤ a j then x j else y j := by
  show (if BitVec.ofBool (decide (b j ≤ a j)) = 1#1 then x j else y j) = _
  refine if_congr ?_ rfl rfl
  by_cases h : b j ≤ a j <;> simp [h]

/-- The tail read at an index: the exponential times the reciprocal of the column's sum where it reaches the maximum left after three peelings, else zero. -/
theorem tail_at (e : FVec Ideal S96x12288 .f32) (ones : FVec Ideal S1x96 .f32) (hones : ∀ d : Fin 96, ones (ValueIdx.ix2 0 d) = 1)
    (c : Fin 96) (n : Fin 12288) :
    tail e ones (ValueIdx.ix2 c n) = if Finset.univ.sup (peel (peel (peel fun d => e (ValueIdx.ix2 d n)))) ≤ e (ValueIdx.ix2 c n) then
      e (ValueIdx.ix2 c n) * Ideal.div 1 (∑ d : Fin 96, e (ValueIdx.ix2 d n)) else 0 := by
  have hs : matmul dot_S1x96_S96x12288_S1x12288_1_0_0_1_n_n (φ₁ := .f32) (φ₂ := .f32) none ones e
      (constant (F := Ideal) S1x12288 .f32 0x00000000#32) (ValueIdx.ix2 0 n) = ∑ d : Fin 96, e (ValueIdx.ix2 d n) := by
    have : matmul dot_S1x96_S96x12288_S1x12288_1_0_0_1_n_n (φ₁ := .f32) (φ₂ := .f32) none ones e
      (constant (F := Ideal) S1x12288 .f32 0x00000000#32) (ValueIdx.ix2 0 n) = ∑ d : Fin 96, ones (ValueIdx.ix2 0 d) * e (ValueIdx.ix2 d n) := by
      pointwise []; rfl
    rw [this]
    exact Finset.sum_congr rfl fun d _ => by rw [hones, one_mul]
  unfold tail
  rw [select_ge, colMax_at, round_col, round_col, round_col]
  refine if_congr Iff.rfl ?_ Ideal.ofBits_zero_f32
  generalize matmul dot_S1x96_S96x12288_S1x12288_1_0_0_1_n_n (φ₁ := .f32) (φ₂ := .f32) none ones e
      (constant (F := Ideal) S1x12288 .f32 0x00000000#32) = s at hs
  show e (ValueIdx.ix2 c n) * _ = _
  rw [spread_at]
  show e (ValueIdx.ix2 c n) * Ideal.div (Ideal.ofBits .f32 0x3F800000#32) (s (ValueIdx.ix2 0 n)) = _
  rw [hs, Ideal.ofBits_one_f32]

/-- The block the kernel stores, at channel `c`, row `r` and column `q`, from the 96 logits of that pixel. -/
theorem pay16_at (v : FVec Ideal S96x12288 .f32) (vb : Vec Ideal S96x1 .f32) (ones : Vec Ideal S1x96 .f32)
    (hones : ∀ d : Fin 96, ones (ValueIdx.ix2 0 d) = 1) (c : Fin 96) (r : Fin 32) (q : Fin 384) (n : Fin 12288) (hn : n.val = r.val * 384 + q.val) :
    k0_pay1 (k0_pay16 v vb ones) (ValueIdx.ix4 0 c r q) = pick (fun d => v (ValueIdx.ix2 d n) + vb (ValueIdx.ix2 d 0)) c := by
  have hL : ∀ d : Fin 96, addf v (broadcastTo S96x12288 (shapeCast S96x1 vb shapeCasts_S96x1_S96x1) broadcasts_S96x1_S96x12288) (ValueIdx.ix2 d n)
      = v (ValueIdx.ix2 d n) + vb (ValueIdx.ix2 d 0) := by
    intro d
    rw [shapeCast_self]
    show v (ValueIdx.ix2 d n) + broadcastTo S96x12288 vb _ (ValueIdx.ix2 d n) = _
    rw [broadcastTo_apply vb _ (ValueIdx.ix2 d n) (ValueIdx.ix2 d 0) (by
      intro a; match a with
      | ⟨0, _⟩ => rfl
      | ⟨1, _⟩ => rfl)]
  unfold k0_pay1
  rw [pay16_eq, shapeCast_apply _ _ (ValueIdx.ix4 0 c r q) (ValueIdx.ix3 c r q) (by
      rw [Shape.rowMajor_val_three, Shape.rowMajor_val_four]
      show (c.val * 32 + r.val) * 384 + q.val = ((0 * 96 + c.val) * 32 + r.val) * 384 + q.val
      omega),
    shapeCast_apply _ _ (ValueIdx.ix3 c r q) (ValueIdx.ix2 c n) (by
      rw [Shape.rowMajor_val_two, Shape.rowMajor_val_three]
      show c.val * 12288 + n.val = (c.val * 32 + r.val) * 384 + q.val
      omega), shapeCast_self ones, tail_at _ _ hones]
  have he' : ∀ d : Fin 96, exp (addf v (broadcastTo S96x12288 (shapeCast S96x1 vb shapeCasts_S96x1_S96x1) broadcasts_S96x1_S96x12288)) (ValueIdx.ix2 d n)
      = Ideal.exp (v (ValueIdx.ix2 d n) + vb (ValueIdx.ix2 d 0)) := fun d => congrArg Ideal.exp (hL d)
  simp only [he']
  rfl

end Cert.KernelSelect

end
-- ==== Proof.KernelBlock.lean ====
/-
  What the kernel's body writes at a grid point: the block of `Spec.result` at that point, read from the argument arrays.
-/
module

public import proofs.«01_k».proof.Proof.KernelArrays
public import proofs.«01_k».proof.Proof.KernelFirst
public import proofs.«01_k».proof.Proof.KernelSecond
public import proofs.«01_k».proof.Proof.KernelSelect
public import proofs.«01_k».proof.Proof.Gen.KernelIdeal.Value

@[expose] public section

set_option maxRecDepth 16384

noncomputable section

namespace Cert.KernelBlock

open Cert.KernelIdeal Cert.KernelIdeal.Gen Idealize.ShloMosaic Idealize.ShloMosaic.TcCoe Cert.Spec
open Cert.KernelFirst (IsTap)
open Cert.KernelSecond (IsPair wt)

variable (m : (ℓ : Loc nD τ sig) → Buf (Elt Ideal) ℓ) (c : Dev nD)

/-- The batch entry of a grid point. -/
abbrev bat (t : Fin cfg0.N) : Fin 2 := (grid0.coords t) 0

/-- The row block of a grid point. -/
abbrev row (t : Fin cfg0.N) : Fin 12 := (grid0.coords t) 1

/-- Window 0 starts eight rows above the row block, at the top when there are none. -/
theorem index0 : ∀ t : Fin cfg0.N, win0_0.index t 0 = (bat t).val ∧ win0_0.index t 1 = 0 ∧ win0_0.index t 2 = 4 * (row t).val - 1 ∧ win0_0.index t 3 = 0 :=
  (by decide +kernel : ∀ t : Fin grid0.N, win0_0.index t 0 = ((grid0.coords t) 0).val ∧ win0_0.index t 1 = 0 ∧ win0_0.index t 2 = 4 * ((grid0.coords t) 1).val - 1 ∧ win0_0.index t 3 = 0)

/-- Window 1 is the row block. -/
theorem index1 : ∀ t : Fin cfg0.N, win0_1.index t 0 = (bat t).val ∧ win0_1.index t 1 = 0 ∧ win0_1.index t 2 = (row t).val ∧ win0_1.index t 3 = 0 :=
  (by decide +kernel : ∀ t : Fin grid0.N, win0_1.index t 0 = ((grid0.coords t) 0).val ∧ win0_1.index t 1 = 0 ∧ win0_1.index t 2 = ((grid0.coords t) 1).val ∧ win0_1.index t 3 = 0)

/-- Window 2 is the eight rows below the row block, the last eight when there are none. -/
theorem index2 : ∀ t : Fin cfg0.N, win0_2.index t 0 = (bat t).val ∧ win0_2.index t 1 = 0 ∧ win0_2.index t 2 = min (4 * ((row t).val + 1)) 47 ∧ win0_2.index t 3 = 0 :=
  (by decide +kernel : ∀ t : Fin grid0.N, win0_2.index t 0 = ((grid0.coords t) 0).val ∧ win0_2.index t 1 = 0 ∧ win0_2.index t 2 = min (4 * (((grid0.coords t) 1).val + 1)) 47 ∧ win0_2.index t 3 = 0)

/-- Window 11 is the row block of the result. -/
theorem index11 : ∀ t : Fin cfg0.N, win0_11.index t 0 = (bat t).val ∧ win0_11.index t 1 = 0 ∧ win0_11.index t 2 = (row t).val ∧ win0_11.index t 3 = 0 :=
  (by decide +kernel : ∀ t : Fin grid0.N, win0_11.index t 0 = ((grid0.coords t) 0).val ∧ win0_11.index t 1 = 0 ∧ win0_11.index t 2 = ((grid0.coords t) 1).val ∧ win0_11.index t 3 = 0)

/-- An element of the array is the image at its coordinates. -/
theorem image_of {C : ℕ} (x : (⟨4, ![2, C, 384, 384]⟩ : Shape).Idx → EReal) (j : (⟨4, ![2, C, 384, 384]⟩ : Shape).Idx) (b : Fin 2) (k : Fin C) (Y X : ℤ)
    (h0 : (j 0).val = b.val) (h1 : (j 1).val = k.val) (h2 : ((j 2).val : ℤ) = Y) (h3 : ((j 3).val : ℤ) = X) : x j = image x b k Y X := by
  have l2 : (j 2).val < 384 := (j 2).isLt
  have l3 : (j 3).val < 384 := (j 3).isLt
  rw [image, dif_pos ⟨by omega, by omega, by omega, by omega⟩]
  refine congrArg x (funext fun a => Fin.ext ?_)
  match a with
  | ⟨0, _⟩ => exact h0
  | ⟨1, _⟩ => exact h1
  | ⟨2, _⟩ => show (j 2).val = Y.toNat; omega
  | ⟨3, _⟩ => show (j 3).val = X.toNat; omega

/-- The last two rows above the row block, unless the block is the first. -/
theorem ld_above (t : Fin cfg0.N) (h : (row t).val ≠ 0) (k : Fin 96) (r : Fin 2) (q : Fin 384) :
    View.ld (iblk m c 0 t) r0_0 (ValueIdx.ix4 0 k r q) = image (m ((c : Thread nD τ).loc main_arg0)) (bat t) k (32 * ((row t).val : ℤ) - 2 + r.val) q.val := by
  obtain ⟨e0, e1, e2, e3⟩ := index0 t
  refine (congrFun (V_main_arg0 m c) _).trans ?_
  refine image_of _ _ _ _ _ _ ?_ ?_ ?_ ?_
  · show win0_0.index t 0 * 1 + 1 * (0 + 1 * 0) = _; omega
  · show win0_0.index t 1 * 96 + 1 * (0 + 1 * k.val) = _; omega
  · show ((win0_0.index t 2 * 8 + 1 * (6 + 1 * r.val) : ℕ) : ℤ) = _; omega
  · show ((win0_0.index t 3 * 384 + 1 * (0 + 1 * q.val) : ℕ) : ℤ) = _; omega

/-- The two rows below the row block, unless the block is the last. -/
theorem ld_below (t : Fin cfg0.N) (h : (row t).val ≠ 11) (k : Fin 96) (r : Fin 2) (q : Fin 384) :
    View.ld (iblk m c 2 t) r0_1 (ValueIdx.ix4 0 k r q) = image (m ((c : Thread nD τ).loc main_arg0)) (bat t) k (32 * ((row t).val : ℤ) + 32 + r.val) q.val := by
  obtain ⟨e0, e1, e2, e3⟩ := index2 t
  have hr : (row t).val < 12 := (row t).isLt
  refine (congrFun (V_main_arg0 m c) _).trans ?_
  refine image_of _ _ _ _ _ _ ?_ ?_ ?_ ?_
  · show win0_2.index t 0 * 1 + 1 * (0 + 1 * 0) = _; omega
  · show win0_2.index t 1 * 96 + 1 * (0 + 1 * k.val) = _; omega
  · show ((win0_2.index t 2 * 8 + 1 * (0 + 1 * r.val) : ℕ) : ℤ) = _; omega
  · show ((win0_2.index t 3 * 384 + 1 * (0 + 1 * q.val) : ℕ) : ℤ) = _; omega

/-- The row block itself. -/
theorem ld_block (t : Fin cfg0.N) (k : Fin 96) (r : Fin 32) (q : Fin 384) :
    View.ld (iblk m c 1 t) r0_2 (ValueIdx.ix4 0 k r q) = image (m ((c : Thread nD τ).loc main_arg0)) (bat t) k (32 * ((row t).val : ℤ) + r.val) q.val := by
  obtain ⟨e0, e1, e2, e3⟩ := index1 t
  refine (congrFun (V_main_arg0 m c) _).trans ?_
  refine image_of _ _ _ _ _ _ ?_ ?_ ?_ ?_
  · show win0_1.index t 0 * 1 + 1 * (0 + 1 * 0) = _; omega
  · show win0_1.index t 1 * 96 + 1 * (0 + 1 * k.val) = _; omega
  · show ((win0_1.index t 2 * 32 + 1 * (0 + 1 * r.val) : ℕ) : ℤ) = _; omega
  · show ((win0_1.index t 3 * 384 + 1 * (0 + 1 * q.val) : ℕ) : ℤ) = _; omega

/-- Window 3 is its whole array. -/
theorem whole3 (t : Fin cfg0.N) : iblk m c 3 t = V m c main_v0 := by
  refine funext fun j => congrArg (V m c main_v0) (funext fun a => Fin.ext ?_)
  match a with
  | ⟨0, _⟩ => show 0 * 3 + 1 * (j 0).val = _; rw [Nat.zero_mul, Nat.zero_add, Nat.one_mul]; rfl
  | ⟨1, _⟩ => show 0 * 3 + 1 * (j 1).val = _; rw [Nat.zero_mul, Nat.zero_add, Nat.one_mul]; rfl
  | ⟨2, _⟩ => show 0 * 64 + 1 * (j 2).val = _; rw [Nat.zero_mul, Nat.zero_add, Nat.one_mul]; rfl
  | ⟨3, _⟩ => show 0 * 96 + 1 * (j 3).val = _; rw [Nat.zero_mul, Nat.zero_add, Nat.one_mul]; rfl

/-- Window 4 is its whole array. -/
theorem whole4 (t : Fin cfg0.N) : iblk m c 4 t = V m c main_v20 := by
  refine funext fun j => congrArg (V m c main_v20) (funext fun a => Fin.ext ?_)
  match a with
  | ⟨0, _⟩ => show 0 * 64 + 1 * (j 0).val = _; rw [Nat.zero_mul, Nat.zero_add, Nat.one_mul]; rfl
  | ⟨1, _⟩ => show 0 * 1 + 1 * (j 1).val = _; rw [Nat.zero_mul, Nat.zero_add, Nat.one_mul]; rfl

/-- Window 5 is its whole array. -/
theorem whole5 (t : Fin cfg0.N) : iblk m c 5 t = V m c main_v6 := by
  refine funext fun j => congrArg (V m c main_v6) (funext fun a => Fin.ext ?_)
  match a with
  | ⟨0, _⟩ => show 0 * 3 + 1 * (j 0).val = _; rw [Nat.zero_mul, Nat.zero_add, Nat.one_mul]; rfl
  | ⟨1, _⟩ => show 0 * 64 + 1 * (j 1).val = _; rw [Nat.zero_mul, Nat.zero_add, Nat.one_mul]; rfl
  | ⟨2, _⟩ => show 0 * 128 + 1 * (j 2).val = _; rw [Nat.zero_mul, Nat.zero_add, Nat.one_mul]; rfl

/-- Window 6 is its whole array. -/
theorem whole6 (t : Fin cfg0.N) : iblk m c 6 t = V m c main_v18 := by
  refine funext fun j => congrArg (V m c main_v18) (funext fun a => Fin.ext ?_)
  match a with
  | ⟨0, _⟩ => show 0 * 2 + 1 * (j 0).val = _; rw [Nat.zero_mul, Nat.zero_add, Nat.one_mul]; rfl
  | ⟨1, _⟩ => show 0 * 64 + 1 * (j 1).val = _; rw [Nat.zero_mul, Nat.zero_add, Nat.one_mul]; rfl
  | ⟨2, _⟩ => show 0 * 128 + 1 * (j 2).val = _; rw [Nat.zero_mul, Nat.zero_add, Nat.one_mul]; rfl

/-- Window 7 is its whole array. -/
theorem whole7 (t : Fin cfg0.N) : iblk m c 7 t = V m c main_v21 := by
  refine funext fun j => congrArg (V m c main_v21) (funext fun a => Fin.ext ?_)
  match a with
  | ⟨0, _⟩ => show 0 * 64 + 1 * (j 0).val = _; rw [Nat.zero_mul, Nat.zero_add, Nat.one_mul]; rfl
  | ⟨1, _⟩ => show 0 * 1 + 1 * (j 1).val = _; rw [Nat.zero_mul, Nat.zero_add, Nat.one_mul]; rfl

/-- Window 8 is its whole array. -/
theorem whole8 (t : Fin cfg0.N) : iblk m c 8 t = V m c main_v19 := by
  refine funext fun j => congrArg (V m c main_v19) (funext fun a => Fin.ext ?_)
  match a with
  | ⟨0, _⟩ => show 0 * 96 + 1 * (j 0).val = _; rw [Nat.zero_mul, Nat.zero_add, Nat.one_mul]; rfl
  | ⟨1, _⟩ => show 0 * 64 + 1 * (j 1).val = _; rw [Nat.zero_mul, Nat.zero_add, Nat.one_mul]; rfl

/-- Window 9 is its whole array. -/
theorem whole9 (t : Fin cfg0.N) : iblk m c 9 t = V m c main_v22 := by
  refine funext fun j => congrArg (V m c main_v22) (funext fun a => Fin.ext ?_)
  match a with
  | ⟨0, _⟩ => show 0 * 96 + 1 * (j 0).val = _; rw [Nat.zero_mul, Nat.zero_add, Nat.one_mul]; rfl
  | ⟨1, _⟩ => show 0 * 1 + 1 * (j 1).val = _; rw [Nat.zero_mul, Nat.zero_add, Nat.one_mul]; rfl

/-- Window 10 is its whole array. -/
theorem whole10 (t : Fin cfg0.N) : iblk m c 10 t = V m c main_v23 := by
  refine funext fun j => congrArg (V m c main_v23) (funext fun a => Fin.ext ?_)
  match a with
  | ⟨0, _⟩ => show 0 * 1 + 1 * (j 0).val = _; rw [Nat.zero_mul, Nat.zero_add, Nat.one_mul]; rfl
  | ⟨1, _⟩ => show 0 * 96 + 1 * (j 1).val = _; rw [Nat.zero_mul, Nat.zero_add, Nat.one_mul]; rfl

/-- The load of the first weights' tap (0, 0). -/
theorem tap00 (t : Fin cfg0.N) : IsTap (m ((c : Thread nD τ).loc main_arg1)) 0 0 (View.ld (iblk m c 3 t) r0_3) := fun o k => by
  rw [whole3]
  refine Eq.trans (congrArg (V m c main_v0) (funext fun a => Fin.ext ?_)) (KernelArrays.v0_at m c 0 0 o k)
  match a with
  | ⟨0, _⟩ => rfl
  | ⟨1, _⟩ => rfl
  | ⟨2, _⟩ => show 0 + 1 * o.val = o.val; omega
  | ⟨3, _⟩ => show 0 + 1 * k.val = k.val; omega

/-- The load of the first weights' tap (0, 1). -/
theorem tap01 (t : Fin cfg0.N) : IsTap (m ((c : Thread nD τ).loc main_arg1)) 0 1 (View.ld (iblk m c 3 t) r0_4) := fun o k => by
  rw [whole3]
  refine Eq.trans (congrArg (V m c main_v0) (funext fun a => Fin.ext ?_)) (KernelArrays.v0_at m c 0 1 o k)
  match a with
  | ⟨0, _⟩ => rfl
  | ⟨1, _⟩ => rfl
  | ⟨2, _⟩ => show 0 + 1 * o.val = o.val; omega
  | ⟨3, _⟩ => show 0 + 1 * k.val = k.val; omega

/-- The load of the first weights' tap (0, 2). -/
theorem tap02 (t : Fin cfg0.N) : IsTap (m ((c : Thread nD τ).loc main_arg1)) 0 2 (View.ld (iblk m c 3 t) r0_5) := fun o k => by
  rw [whole3]
  refine Eq.trans (congrArg (V m c main_v0) (funext fun a => Fin.ext ?_)) (KernelArrays.v0_at m c 0 2 o k)
  match a with
  | ⟨0, _⟩ => rfl
  | ⟨1, _⟩ => rfl
  | ⟨2, _⟩ => show 0 + 1 * o.val = o.val; omega
  | ⟨3, _⟩ => show 0 + 1 * k.val = k.val; omega

/-- The load of the first weights' tap (1, 0). -/
theorem tap10 (t : Fin cfg0.N) : IsTap (m ((c : Thread nD τ).loc main_arg1)) 1 0 (View.ld (iblk m c 3 t) r0_6) := fun o k => by
  rw [whole3]
  refine Eq.trans (congrArg (V m c main_v0) (funext fun a => Fin.ext ?_)) (KernelArrays.v0_at m c 1 0 o k)
  match a with
  | ⟨0, _⟩ => rfl
  | ⟨1, _⟩ => rfl
  | ⟨2, _⟩ => show 0 + 1 * o.val = o.val; omega
  | ⟨3, _⟩ => show 0 + 1 * k.val = k.val; omega

/-- The load of the first weights' tap (1, 1). -/
theorem tap11 (t : Fin cfg0.N) : IsTap (m ((c : Thread nD τ).loc main_arg1)) 1 1 (View.ld (iblk m c 3 t) r0_7) := fun o k => by
  rw [whole3]
  refine Eq.trans (congrArg (V m c main_v0) (funext fun a => Fin.ext ?_)) (KernelArrays.v0_at m c 1 1 o k)
  match a with
  | ⟨0, _⟩ => rfl
  | ⟨1, _⟩ => rfl
  | ⟨2, _⟩ => show 0 + 1 * o.val = o.val; omega
  | ⟨3, _⟩ => show 0 + 1 * k.val = k.val; omega

/-- The load of the first weights' tap (1, 2). -/
theorem tap12 (t : Fin cfg0.N) : IsTap (m ((c : Thread nD τ).loc main_arg1)) 1 2 (View.ld (iblk m c 3 t) r0_8) := fun o k => by
  rw [whole3]
  refine Eq.trans (congrArg (V m c main_v0) (funext fun a => Fin.ext ?_)) (KernelArrays.v0_at m c 1 2 o k)
  match a with
  | ⟨0, _⟩ => rfl
  | ⟨1, _⟩ => rfl
  | ⟨2, _⟩ => show 0 + 1 * o.val = o.val; omega
  | ⟨3, _⟩ => show 0 + 1 * k.val = k.val; omega

/-- The load of the first weights' tap (2, 0). -/
theorem tap20 (t : Fin cfg0.N) : IsTap (m ((c : Thread nD τ).loc main_arg1)) 2 0 (View.ld (iblk m c 3 t) r0_9) := fun o k => by
  rw [whole3]
  refine Eq.trans (congrArg (V m c main_v0) (funext fun a => Fin.ext ?_)) (KernelArrays.v0_at m c 2 0 o k)
  match a with
  | ⟨0, _⟩ => rfl
  | ⟨1, _⟩ => rfl
  | ⟨2, _⟩ => show 0 + 1 * o.val = o.val; omega
  | ⟨3, _⟩ => show 0 + 1 * k.val = k.val; omega

/-- The load of the first weights' tap (2, 1). -/
theorem tap21 (t : Fin cfg0.N) : IsTap (m ((c : Thread nD τ).loc main_arg1)) 2 1 (View.ld (iblk m c 3 t) r0_10) := fun o k => by
  rw [whole3]
  refine Eq.trans (congrArg (V m c main_v0) (funext fun a => Fin.ext ?_)) (KernelArrays.v0_at m c 2 1 o k)
  match a with
  | ⟨0, _⟩ => rfl
  | ⟨1, _⟩ => rfl
  | ⟨2, _⟩ => show 0 + 1 * o.val = o.val; omega
  | ⟨3, _⟩ => show 0 + 1 * k.val = k.val; omega

/-- The load of the first weights' tap (2, 2). -/
theorem tap22 (t : Fin cfg0.N) : IsTap (m ((c : Thread nD τ).loc main_arg1)) 2 2 (View.ld (iblk m c 3 t) r0_11) := fun o k => by
  rw [whole3]
  refine Eq.trans (congrArg (V m c main_v0) (funext fun a => Fin.ext ?_)) (KernelArrays.v0_at m c 2 2 o k)
  match a with
  | ⟨0, _⟩ => rfl
  | ⟨1, _⟩ => rfl
  | ⟨2, _⟩ => show 0 + 1 * o.val = o.val; omega
  | ⟨3, _⟩ => show 0 + 1 * k.val = k.val; omega

/-- The load of the second weights' columns 0 and 1 in row 0. -/
theorem pair0 (t : Fin cfg0.N) : IsPair (wt (m ((c : Thread nD τ).loc main_arg3)) 0 0) (wt (m ((c : Thread nD τ).loc main_arg3)) 0 1) (View.ld (iblk m c 5 t) r0_13) := by
  rw [whole5]
  refine ⟨fun o k => Eq.trans (congrArg (V m c main_v6) (funext fun a => Fin.ext ?_)) (KernelArrays.v6_left m c 0 o k),
    fun o k => Eq.trans (congrArg (V m c main_v6) (funext fun a => Fin.ext ?_)) (KernelArrays.v6_right m c 0 o k)⟩
  · match a with
    | ⟨0, _⟩ => rfl
    | ⟨1, _⟩ => show 0 + 1 * o.val = o.val; omega
    | ⟨2, _⟩ => show 0 + 1 * (Fin.castAdd 64 k).val = (Fin.castAdd 64 k).val; omega
  · match a with
    | ⟨0, _⟩ => rfl
    | ⟨1, _⟩ => show 0 + 1 * o.val = o.val; omega
    | ⟨2, _⟩ => show 0 + 1 * (Fin.natAdd 64 k).val = (Fin.natAdd 64 k).val; omega

/-- The load of the second weights' columns 0 and 1 in row 1. -/
theorem pair1 (t : Fin cfg0.N) : IsPair (wt (m ((c : Thread nD τ).loc main_arg3)) 1 0) (wt (m ((c : Thread nD τ).loc main_arg3)) 1 1) (View.ld (iblk m c 5 t) r0_14) := by
  rw [whole5]
  refine ⟨fun o k => Eq.trans (congrArg (V m c main_v6) (funext fun a => Fin.ext ?_)) (KernelArrays.v6_left m c 1 o k),
    fun o k => Eq.trans (congrArg (V m c main_v6) (funext fun a => Fin.ext ?_)) (KernelArrays.v6_right m c 1 o k)⟩
  · match a with
    | ⟨0, _⟩ => rfl
    | ⟨1, _⟩ => show 0 + 1 * o.val = o.val; omega
    | ⟨2, _⟩ => show 0 + 1 * (Fin.castAdd 64 k).val = (Fin.castAdd 64 k).val; omega
  · match a with
    | ⟨0, _⟩ => rfl
    | ⟨1, _⟩ => show 0 + 1 * o.val = o.val; omega
    | ⟨2, _⟩ => show 0 + 1 * (Fin.natAdd 64 k).val = (Fin.natAdd 64 k).val; omega

/-- The load of the second weights' columns 0 and 1 in row 2. -/
theorem pair2 (t : Fin cfg0.N) : IsPair (wt (m ((c : Thread nD τ).loc main_arg3)) 2 0) (wt (m ((c : Thread nD τ).loc main_arg3)) 2 1) (View.ld (iblk m c 5 t) r0_15) := by
  rw [whole5]
  refine ⟨fun o k => Eq.trans (congrArg (V m c main_v6) (funext fun a => Fin.ext ?_)) (KernelArrays.v6_left m c 2 o k),
    fun o k => Eq.trans (congrArg (V m c main_v6) (funext fun a => Fin.ext ?_)) (KernelArrays.v6_right m c 2 o k)⟩
  · match a with
    | ⟨0, _⟩ => rfl
    | ⟨1, _⟩ => show 0 + 1 * o.val = o.val; omega
    | ⟨2, _⟩ => show 0 + 1 * (Fin.castAdd 64 k).val = (Fin.castAdd 64 k).val; omega
  · match a with
    | ⟨0, _⟩ => rfl
    | ⟨1, _⟩ => show 0 + 1 * o.val = o.val; omega
    | ⟨2, _⟩ => show 0 + 1 * (Fin.natAdd 64 k).val = (Fin.natAdd 64 k).val; omega

/-- The load of the second weights' column 2 in rows 0 and 1. -/
theorem side0 (t : Fin cfg0.N) : IsPair (wt (m ((c : Thread nD τ).loc main_arg3)) 0 2) (wt (m ((c : Thread nD τ).loc main_arg3)) 1 2) (View.ld (iblk m c 6 t) r0_16) := by
  rw [whole6]
  refine ⟨fun o k => Eq.trans (congrArg (V m c main_v18) (funext fun a => Fin.ext ?_)) (KernelArrays.v18_0_left m c o k),
    fun o k => Eq.trans (congrArg (V m c main_v18) (funext fun a => Fin.ext ?_)) (KernelArrays.v18_0_right m c o k)⟩
  · match a with
    | ⟨0, _⟩ => rfl
    | ⟨1, _⟩ => show 0 + 1 * o.val = o.val; omega
    | ⟨2, _⟩ => show 0 + 1 * (Fin.castAdd 64 k).val = (Fin.castAdd 64 k).val; omega
  · match a with
    | ⟨0, _⟩ => rfl
    | ⟨1, _⟩ => show 0 + 1 * o.val = o.val; omega
    | ⟨2, _⟩ => show 0 + 1 * (Fin.natAdd 64 k).val = (Fin.natAdd 64 k).val; omega

/-- The load of the second weights' column 2 in row 2, beside zeros. -/
theorem side1 (t : Fin cfg0.N) : IsPair (wt (m ((c : Thread nD τ).loc main_arg3)) 2 2) (fun _ _ => 0) (View.ld (iblk m c 6 t) r0_17) := by
  rw [whole6]
  refine ⟨fun o k => Eq.trans (congrArg (V m c main_v18) (funext fun a => Fin.ext ?_)) (KernelArrays.v18_1_left m c o k),
    fun o k => Eq.trans (congrArg (V m c main_v18) (funext fun a => Fin.ext ?_)) (KernelArrays.v18_1_right m c o k)⟩
  · match a with
    | ⟨0, _⟩ => rfl
    | ⟨1, _⟩ => show 0 + 1 * o.val = o.val; omega
    | ⟨2, _⟩ => show 0 + 1 * (Fin.castAdd 64 k).val = (Fin.castAdd 64 k).val; omega
  · match a with
    | ⟨0, _⟩ => rfl
    | ⟨1, _⟩ => show 0 + 1 * o.val = o.val; omega
    | ⟨2, _⟩ => show 0 + 1 * (Fin.natAdd 64 k).val = (Fin.natAdd 64 k).val; omega

/-- The load of the first bias. -/
theorem bias1 (t : Fin cfg0.N) (o : Fin 64) : View.ld (iblk m c 4 t) r0_12 (ValueIdx.ix2 o 0) = m ((c : Thread nD τ).loc main_arg2) (ValueIdx.ix1 o) := by
  rw [whole4]
  refine Eq.trans (congrArg (V m c main_v20) (funext fun a => Fin.ext ?_)) (KernelArrays.v20_at m c o)
  match a with
  | ⟨0, _⟩ => show 0 + 1 * o.val = o.val; omega
  | ⟨1, _⟩ => rfl

/-- The load of the second bias. -/
theorem bias2 (t : Fin cfg0.N) (o : Fin 64) : View.ld (iblk m c 7 t) r0_12 (ValueIdx.ix2 o 0) = m ((c : Thread nD τ).loc main_arg4) (ValueIdx.ix1 o) := by
  rw [whole7]
  refine Eq.trans (congrArg (V m c main_v21) (funext fun a => Fin.ext ?_)) (KernelArrays.v21_at m c o)
  match a with
  | ⟨0, _⟩ => show 0 + 1 * o.val = o.val; omega
  | ⟨1, _⟩ => rfl

/-- The load of the last bias. -/
theorem bias3 (t : Fin cfg0.N) (o : Fin 96) : View.ld (iblk m c 9 t) r0_19 (ValueIdx.ix2 o 0) = m ((c : Thread nD τ).loc main_arg6) (ValueIdx.ix1 o) := by
  rw [whole9]
  refine Eq.trans (congrArg (V m c main_v22) (funext fun a => Fin.ext ?_)) (KernelArrays.v22_at m c o)
  match a with
  | ⟨0, _⟩ => show 0 + 1 * o.val = o.val; omega
  | ⟨1, _⟩ => rfl

/-- The load of the last weights. -/
theorem last (t : Fin cfg0.N) (d : Fin 96) (k : Fin 64) :
    View.ld (iblk m c 8 t) r0_18 (ValueIdx.ix2 d k) = m ((c : Thread nD τ).loc main_arg5) (ValueIdx.ix4 d k 0 0) := by
  rw [whole8]
  refine Eq.trans (congrArg (V m c main_v19) (funext fun a => Fin.ext ?_)) (KernelArrays.v19_at m c d k)
  match a with
  | ⟨0, _⟩ => show 0 + 1 * d.val = d.val; omega
  | ⟨1, _⟩ => show 0 + 1 * k.val = k.val; omega

/-- The load of the row of ones. -/
theorem one (t : Fin cfg0.N) (d : Fin 96) : View.ld (iblk m c 10 t) r0_20 (ValueIdx.ix2 0 d) = (1 : EReal) := by
  rw [whole10]
  refine Eq.trans (congrArg (V m c main_v23) (funext fun a => Fin.ext ?_)) (KernelArrays.v23_at m c d)
  match a with
  | ⟨0, _⟩ => rfl
  | ⟨1, _⟩ => show 0 + 1 * d.val = d.val; omega

/-- The seven argument arrays of device `c` at launch. -/
def args : Args where
  x := m ((c : Thread nD τ).loc main_arg0)
  w1 := m ((c : Thread nD τ).loc main_arg1)
  b1 := m ((c : Thread nD τ).loc main_arg2)
  w2 := m ((c : Thread nD τ).loc main_arg3)
  b2 := m ((c : Thread nD τ).loc main_arg4)
  w3 := m ((c : Thread nD τ).loc main_arg5)
  b3 := m ((c : Thread nD τ).loc main_arg6)

/-- The image vanishes at a coordinate outside. -/
theorem image_out {C : ℕ} (x : (⟨4, ![2, C, 384, 384]⟩ : Shape).Idx → EReal) (b : Fin 2) (k : Fin C) (Y X : ℤ) (h : ¬ InImage Y X) :
    image x b k Y X = 0 := dif_neg h

/-- The four zero offsets as a constant function. -/
theorem zero4 : (![0, 0, 0, 0] : Fin 4 → ℕ) = fun _ => 0 := funext fun a => by fin_cases a <;> rfl

/-- What the body writes at a grid point: the selected exponentials of that point's rows. -/
theorem block_at (t : Fin cfg0.N) (k : Fin 96) (r : Fin 32) (q : Fin 384) :
    out0_11 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ValueIdx.ix4 0 k r q)
      = pick (fun d => logit (args m c) (bat t) d (32 * ((row t).val : ℤ) + r.val) q.val) k := by
  have X := KernelFirst.pay2_flat (grid0.coords t) (View.ld (iblk m c 0 t) r0_0) (View.ld (iblk m c 2 t) r0_1) (View.ld (iblk m c 1 t) r0_2)
    (image (m ((c : Thread nD τ).loc main_arg0)) (bat t)) (fun d Y X h => image_out _ _ _ _ _ (by unfold InImage; omega))
    (fun d Y X h => image_out _ _ _ _ _ (by unfold InImage; omega))
    (fun h => ld_above m c t h) (fun h => ld_below m c t h) (ld_block m c t)
  have H := KernelFirst.pay8_flat (y0 := 32 * ((row t).val : ℤ) - 1) (by rw [show 32 * ((row t).val : ℤ) - 1 - 1 = 32 * ((row t).val : ℤ) - 2 by ring]; exact X)
    (fun d Y => image_out _ _ _ _ _ (by unfold InImage; omega)) (fun d Y => image_out _ _ _ _ _ (by unfold InImage; omega))
    (tap00 m c t) (tap01 m c t) (tap02 m c t) (tap10 m c t) (tap11 m c t) (tap12 m c t) (tap20 m c t) (tap21 m c t) (tap22 m c t) (bias1 m c t)
  have Z := KernelSecond.pay10_flat (row t).val (row t).isLt H
  have P := KernelSecond.pay15_at (y0 := 32 * ((row t).val : ℤ)) Z (fun d Y => KernelSecond.clip_left _ Y) (fun d Y => KernelSecond.clip_right _ Y)
    (pair0 m c t) (pair1 m c t) (pair2 m c t) (side0 m c t) (side1 m c t) (bias2 m c t) (last m c t)
  unfold out0_11
  rw [View.canon_unit_zero zero4]
  have hn : 384 * r.val + q.val < 12288 := by have := r.isLt; have := q.isLt; omega
  refine (KernelSelect.pay16_at _ _ _ (one m c t) k r q ⟨r.val * 384 + q.val, by omega⟩ rfl).trans ?_
  refine congrArg (fun L => pick L k) (funext fun d => ?_)
  have hY : (r.val * 384 + q.val) / 384 = r.val := by have := q.isLt; omega
  have hX : (r.val * 384 + q.val) % 384 = q.val := by have := q.isLt; omega
  refine congrArg₂ (· + ·) ((P d _).trans ?_) (bias3 m c t d)
  dsimp only
  rw [hY, hX]
  rfl

/-- The whole result at an index whose coordinates are given. -/
theorem result_of (A : Args) (j : (⟨4, ![2, 96, 384, 384]⟩ : Shape).Idx) (b : Fin 2) (k : Fin 96) (Y X : ℤ)
    (h0 : j 0 = b) (h1 : j 1 = k) (h2 : ((j 2).val : ℤ) = Y) (h3 : ((j 3).val : ℤ) = X) :
    pick (fun d => logit A b d Y X) k = result A j := by
  subst h0 h1 h2 h3
  rfl

/-- What the body writes at an index of its block is the whole result at the index of the array that the block's index names. -/
theorem block_result (t : Fin cfg0.N) (j : S1x96x32x384.Idx) (E : S2x96x384x384.Idx) (h0 : (E 0).val = (bat t).val) (h1 : (E 1).val = (j 1).val)
    (h2 : (E 2).val = 32 * (row t).val + (j 2).val) (h3 : (E 3).val = (j 3).val) :
    out0_11 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) j = result (args m c) E := by
  have hj : j = ValueIdx.ix4 (0 : Fin 1) (j 1 : Fin 96) (j 2 : Fin 32) (j 3 : Fin 384) := by
    funext a
    match a with
    | ⟨0, _⟩ => exact Fin.ext (by have : (j 0).val < 1 := (j 0).isLt; show (j 0).val = 0; omega)
    | ⟨1, _⟩ => rfl
    | ⟨2, _⟩ => rfl
    | ⟨3, _⟩ => rfl
  refine (congrArg _ hj).trans ((block_at m c t (j 1) (j 2) (j 3)).trans ?_)
  exact result_of (args m c) E (bat t) (j 1) _ _ (Fin.ext h0) (Fin.ext h1) (by rw [h2]; push_cast; rfl) (by rw [h3])

/-- What a grid point writes back is its block of the whole result. -/
theorem flushed_eq (t : Fin cfg0.N) :
    (dats m 0 c).flushed 11 t = ((cfg0.win 11).blk t).view.read (Elt Ideal) (result (args m c)) := by
  rw [Value.flushed11]
  obtain ⟨e0, e1, e2, e3⟩ := index11 t
  refine funext fun j => block_result m c t j (((cfg0.win 11).blk t).view.emb j) ?_ ?_ ?_ ?_
  · have l0 : (j 0).val < 1 := (j 0).isLt
    show win0_11.index t 0 * 1 + 1 * (j 0).val = _; omega
  · show win0_11.index t 1 * 96 + 1 * (j 1).val = _; rw [e1]; omega
  · show win0_11.index t 2 * 32 + 1 * (j 2).val = _; rw [e2]; omega
  · show win0_11.index t 3 * 384 + 1 * (j 3).val = _; rw [e3]; omega

/-- The grid point that covers a batch entry and a row. -/
theorem point : ∀ (b : Fin 2) (i : Fin 12), ∃ t : Fin cfg0.N, (bat t).val = b.val ∧ (row t).val = i.val :=
  (by decide +kernel : ∀ (b : Fin 2) (i : Fin 12), ∃ t : Fin grid0.N, ((grid0.coords t) 0).val = b.val ∧ ((grid0.coords t) 1).val = i.val)

/-- Every index of the result is in some grid point's block. -/
theorem cover (i : S2x96x384x384.Idx) : ∃ t : Fin cfg0.N, (cfg0.win 11).flush t = true ∧ i ∈ ((cfg0.win 11).blk t).view.set := by
  have h0 : (i 0).val < 2 := (i 0).isLt
  have h1 : (i 1).val < 96 := (i 1).isLt
  have h2 : (i 2).val < 384 := (i 2).isLt
  have h3 : (i 3).val < 384 := (i 3).isLt
  obtain ⟨t, hb, hr⟩ := point ⟨(i 0).val, h0⟩ ⟨(i 2).val / 32, by omega⟩
  obtain ⟨e0, e1, e2, e3⟩ := index11 t
  refine ⟨t, flush0_11 t, ?_⟩
  show i ∈ ((View.whole main_v24).slice (win0_11.rect t)).set
  rw [View.set_slice_whole, Rect.mem_set_unit]
  intro a
  match a with
  | ⟨0, _⟩ => show win0_11.index t 0 * 1 ≤ (i 0).val ∧ (i 0).val < win0_11.index t 0 * 1 + 1; dsimp only at hb; omega
  | ⟨1, _⟩ => show win0_11.index t 1 * 96 ≤ (i 1).val ∧ (i 1).val < win0_11.index t 1 * 96 + 96; omega
  | ⟨2, _⟩ => show win0_11.index t 2 * 32 ≤ (i 2).val ∧ (i 2).val < win0_11.index t 2 * 32 + 32; dsimp only at hr; omega
  | ⟨3, _⟩ => show win0_11.index t 3 * 384 ≤ (i 3).val ∧ (i 3).val < win0_11.index t 3 * 384 + 384; omega

/-- So the result array ends holding the whole result. -/
theorem final (c : Dev nD) : (dats m 0 c).arrAt 11 cfg0.N = result (args m c) :=
  (dats m 0 c).arrAt_eq_of_cover 11 (result (args m c)) (fun t _ => flushed_eq m c t) cover

end Cert.KernelBlock

end
-- ==== Proof.RefLogits.lean ====
/-
  The reference's logits read at a pixel: `Spec.logit` of the argument arrays.
-/
module

public import proofs.«01_k».proof.Proof.Spec
public import proofs.«01_k».proof.Proof.Gen.ReferenceIdeal.Read
public import Idealize.ShloMosaic.Lib.IdealHost

@[expose] public section

set_option maxRecDepth 16384

noncomputable section

namespace Cert.RefLogits

open Cert.ReferenceIdeal Cert.ReferenceIdeal.Gen Cert.ReferenceIdeal.Read Idealize.ShloMosaic Idealize.ShloMosaic.TcCoe Cert.Spec

/-- A pad by one row and one column of zeros on each side, read at an index: the image at the index moved back by one. -/
theorem pad_image {C : ℕ} (x : (⟨4, ![2, C, 384, 384]⟩ : Shape).Idx → EReal) (z : S_.Idx → EReal) (hz : ∀ i, z i = 0)
    (h : (⟨4, ![2, C, 384, 384]⟩ : Shape).Pads ![0, 0, 1, 1] ![0, 0, 1, 1] ![0, 0, 0, 0] ⟨4, ![2, C, 386, 386]⟩) (hu : 0 < S_.numel)
    (j : (⟨4, ![2, C, 386, 386]⟩ : Shape).Idx) (b : Fin 2) (k : Fin C) (Y X : ℤ) (h0 : (j 0).val = b.val) (h1 : (j 1).val = k.val)
    (h2 : ((j 2).val : ℤ) = Y + 1) (h3 : ((j 3).val : ℤ) = X + 1) :
    pad ⟨4, ![2, C, 386, 386]⟩ ![0, 0, 1, 1] ![0, 0, 1, 1] ![0, 0, 0, 0] x z h hu j = image x b k Y X := by
  unfold pad image
  by_cases hi : InImage Y X
  · have hi' := hi
    obtain ⟨a, b', c, d⟩ := hi
    rw [dif_pos hi']
    refine (dif_pos ?_).trans (congrArg x (funext fun a => Fin.ext ?_))
    · intro a
      match a with
      | ⟨0, _⟩ => exact ⟨Nat.zero_le _, Nat.mod_one _, by show ((j 0).val - 0) / 1 < 2; have := b.isLt; omega⟩
      | ⟨1, _⟩ => exact ⟨Nat.zero_le _, Nat.mod_one _, by show ((j 1).val - 0) / 1 < C; have := k.isLt; omega⟩
      | ⟨2, _⟩ => exact ⟨by show 1 ≤ (j 2).val; omega, Nat.mod_one _, by show ((j 2).val - 1) / 1 < 384; omega⟩
      | ⟨3, _⟩ => exact ⟨by show 1 ≤ (j 3).val; omega, Nat.mod_one _, by show ((j 3).val - 1) / 1 < 384; omega⟩
    · match a with
      | ⟨0, _⟩ => show ((j 0).val - 0) / 1 = b.val; omega
      | ⟨1, _⟩ => show ((j 1).val - 0) / 1 = k.val; omega
      | ⟨2, _⟩ => show ((j 2).val - 1) / 1 = Y.toNat; omega
      | ⟨3, _⟩ => show ((j 3).val - 1) / 1 = X.toNat; omega
  · rw [dif_neg hi]
    refine (dif_neg fun hin => hi ?_).trans (hz _)
    have p2 : 1 ≤ (j 2).val ∧ ((j 2).val - 1) % 1 = 0 ∧ ((j 2).val - 1) / 1 < 384 := hin (2 : Fin 4)
    have p3 : 1 ≤ (j 3).val ∧ ((j 3).val - 1) % 1 = 0 ∧ ((j 3).val - 1) / 1 < 384 := hin (3 : Fin 4)
    obtain ⟨p2, -, p2'⟩ := p2
    obtain ⟨p3, -, p3'⟩ := p3
    exact ⟨by omega, by omega, by omega, by omega⟩

variable (x0 : S2x96x384x384.Idx → EReal) (x1 : S64x96x3x3.Idx → EReal) (x2 : S64.Idx → EReal) (x3 : S64x64x3x3.Idx → EReal)
  (x4 : S64.Idx → EReal) (x5 : S96x64x1x1.Idx → EReal) (x6 : S96.Idx → EReal)

/-- Layer 1, tap (0, 0). -/
theorem tap1_00 (b : Fin 2) (o : Fin 64) (y x : Fin 384) :
    val_main_v5 (F := Ideal) x0 x1 (ValueIdx.ix4 b o y x) = tap x1 (image x0 b) o 0 0 y.val x.val := by
  rw [val_main_v5_apply, val_main_v4_apply]
  refine Finset.sum_congr rfl fun k _ => ?_
  rw [mul_comm, val_main_v2_apply, val_main_v1_apply, val_main_v3_apply]
  refine congrArg₂ (· * ·) (congrArg x1 (funext fun a => Fin.ext ?_)) ?_
  · have := o.isLt
    have := k.isLt
    match a with
    | ⟨0, _⟩ => show (o.val * 96 + k.val) / 96 = o.val; omega
    | ⟨1, _⟩ => show (o.val * 96 + k.val) / 1 % 96 = k.val; omega
    | ⟨2, _⟩ => rfl
    | ⟨3, _⟩ => rfl
  · unfold val_main_v0
    refine pad_image _ _ (fun _ => Ideal.ofBits_zero_f32) _ _ _ _ _ _ _ rfl rfl ?_ ?_
    · show ((_ : ℕ) : ℤ) = (y.val : ℤ) + (0 : ℤ) - 1 + 1
      push_cast
      ring
    · show ((_ : ℕ) : ℤ) = (x.val : ℤ) + (0 : ℤ) - 1 + 1
      push_cast
      ring

/-- Layer 1, tap (0, 1). -/
theorem tap1_01 (b : Fin 2) (o : Fin 64) (y x : Fin 384) :
    val_main_v10 (F := Ideal) x0 x1 (ValueIdx.ix4 b o y x) = tap x1 (image x0 b) o 0 1 y.val x.val := by
  rw [val_main_v10_apply, val_main_v9_apply]
  refine Finset.sum_congr rfl fun k _ => ?_
  rw [mul_comm, val_main_v7_apply, val_main_v6_apply, val_main_v8_apply]
  refine congrArg₂ (· * ·) (congrArg x1 (funext fun a => Fin.ext ?_)) ?_
  · have := o.isLt
    have := k.isLt
    match a with
    | ⟨0, _⟩ => show (o.val * 96 + k.val) / 96 = o.val; omega
    | ⟨1, _⟩ => show (o.val * 96 + k.val) / 1 % 96 = k.val; omega
    | ⟨2, _⟩ => rfl
    | ⟨3, _⟩ => rfl
  · unfold val_main_v0
    refine pad_image _ _ (fun _ => Ideal.ofBits_zero_f32) _ _ _ _ _ _ _ rfl rfl ?_ ?_
    · show ((_ : ℕ) : ℤ) = (y.val : ℤ) + (0 : ℤ) - 1 + 1
      push_cast
      ring
    · show ((_ : ℕ) : ℤ) = (x.val : ℤ) + (1 : ℤ) - 1 + 1
      push_cast
      ring

/-- Layer 1, tap (0, 2). -/
theorem tap1_02 (b : Fin 2) (o : Fin 64) (y x : Fin 384) :
    val_main_v16 (F := Ideal) x0 x1 (ValueIdx.ix4 b o y x) = tap x1 (image x0 b) o 0 2 y.val x.val := by
  rw [val_main_v16_apply, val_main_v15_apply]
  refine Finset.sum_congr rfl fun k _ => ?_
  rw [mul_comm, val_main_v13_apply, val_main_v12_apply, val_main_v14_apply]
  refine congrArg₂ (· * ·) (congrArg x1 (funext fun a => Fin.ext ?_)) ?_
  · have := o.isLt
    have := k.isLt
    match a with
    | ⟨0, _⟩ => show (o.val * 96 + k.val) / 96 = o.val; omega
    | ⟨1, _⟩ => show (o.val * 96 + k.val) / 1 % 96 = k.val; omega
    | ⟨2, _⟩ => rfl
    | ⟨3, _⟩ => rfl
  · unfold val_main_v0
    refine pad_image _ _ (fun _ => Ideal.ofBits_zero_f32) _ _ _ _ _ _ _ rfl rfl ?_ ?_
    · show ((_ : ℕ) : ℤ) = (y.val : ℤ) + (0 : ℤ) - 1 + 1
      push_cast
      ring
    · show ((_ : ℕ) : ℤ) = (x.val : ℤ) + (2 : ℤ) - 1 + 1
      push_cast
      ring

/-- Layer 1, tap (1, 0). -/
theorem tap1_10 (b : Fin 2) (o : Fin 64) (y x : Fin 384) :
    val_main_v22 (F := Ideal) x0 x1 (ValueIdx.ix4 b o y x) = tap x1 (image x0 b) o 1 0 y.val x.val := by
  rw [val_main_v22_apply, val_main_v21_apply]
  refine Finset.sum_congr rfl fun k _ => ?_
  rw [mul_comm, val_main_v19_apply, val_main_v18_apply, val_main_v20_apply]
  refine congrArg₂ (· * ·) (congrArg x1 (funext fun a => Fin.ext ?_)) ?_
  · have := o.isLt
    have := k.isLt
    match a with
    | ⟨0, _⟩ => show (o.val * 96 + k.val) / 96 = o.val; omega
    | ⟨1, _⟩ => show (o.val * 96 + k.val) / 1 % 96 = k.val; omega
    | ⟨2, _⟩ => rfl
    | ⟨3, _⟩ => rfl
  · unfold val_main_v0
    refine pad_image _ _ (fun _ => Ideal.ofBits_zero_f32) _ _ _ _ _ _ _ rfl rfl ?_ ?_
    · show ((_ : ℕ) : ℤ) = (y.val : ℤ) + (1 : ℤ) - 1 + 1
      push_cast
      ring
    · show ((_ : ℕ) : ℤ) = (x.val : ℤ) + (0 : ℤ) - 1 + 1
      push_cast
      ring

/-- Layer 1, tap (1, 1). -/
theorem tap1_11 (b : Fin 2) (o : Fin 64) (y x : Fin 384) :
    val_main_v28 (F := Ideal) x0 x1 (ValueIdx.ix4 b o y x) = tap x1 (image x0 b) o 1 1 y.val x.val := by
  rw [val_main_v28_apply, val_main_v27_apply]
  refine Finset.sum_congr rfl fun k _ => ?_
  rw [mul_comm, val_main_v25_apply, val_main_v24_apply, val_main_v26_apply]
  refine congrArg₂ (· * ·) (congrArg x1 (funext fun a => Fin.ext ?_)) ?_
  · have := o.isLt
    have := k.isLt
    match a with
    | ⟨0, _⟩ => show (o.val * 96 + k.val) / 96 = o.val; omega
    | ⟨1, _⟩ => show (o.val * 96 + k.val) / 1 % 96 = k.val; omega
    | ⟨2, _⟩ => rfl
    | ⟨3, _⟩ => rfl
  · unfold val_main_v0
    refine pad_image _ _ (fun _ => Ideal.ofBits_zero_f32) _ _ _ _ _ _ _ rfl rfl ?_ ?_
    · show ((_ : ℕ) : ℤ) = (y.val : ℤ) + (1 : ℤ) - 1 + 1
      push_cast
      ring
    · show ((_ : ℕ) : ℤ) = (x.val : ℤ) + (1 : ℤ) - 1 + 1
      push_cast
      ring

/-- Layer 1, tap (1, 2). -/
theorem tap1_12 (b : Fin 2) (o : Fin 64) (y x : Fin 384) :
    val_main_v34 (F := Ideal) x0 x1 (ValueIdx.ix4 b o y x) = tap x1 (image x0 b) o 1 2 y.val x.val := by
  rw [val_main_v34_apply, val_main_v33_apply]
  refine Finset.sum_congr rfl fun k _ => ?_
  rw [mul_comm, val_main_v31_apply, val_main_v30_apply, val_main_v32_apply]
  refine congrArg₂ (· * ·) (congrArg x1 (funext fun a => Fin.ext ?_)) ?_
  · have := o.isLt
    have := k.isLt
    match a with
    | ⟨0, _⟩ => show (o.val * 96 + k.val) / 96 = o.val; omega
    | ⟨1, _⟩ => show (o.val * 96 + k.val) / 1 % 96 = k.val; omega
    | ⟨2, _⟩ => rfl
    | ⟨3, _⟩ => rfl
  · unfold val_main_v0
    refine pad_image _ _ (fun _ => Ideal.ofBits_zero_f32) _ _ _ _ _ _ _ rfl rfl ?_ ?_
    · show ((_ : ℕ) : ℤ) = (y.val : ℤ) + (1 : ℤ) - 1 + 1
      push_cast
      ring
    · show ((_ : ℕ) : ℤ) = (x.val : ℤ) + (2 : ℤ) - 1 + 1
      push_cast
      ring

/-- Layer 1, tap (2, 0). -/
theorem tap1_20 (b : Fin 2) (o : Fin 64) (y x : Fin 384) :
    val_main_v40 (F := Ideal) x0 x1 (ValueIdx.ix4 b o y x) = tap x1 (image x0 b) o 2 0 y.val x.val := by
  rw [val_main_v40_apply, val_main_v39_apply]
  refine Finset.sum_congr rfl fun k _ => ?_
  rw [mul_comm, val_main_v37_apply, val_main_v36_apply, val_main_v38_apply]
  refine congrArg₂ (· * ·) (congrArg x1 (funext fun a => Fin.ext ?_)) ?_
  · have := o.isLt
    have := k.isLt
    match a with
    | ⟨0, _⟩ => show (o.val * 96 + k.val) / 96 = o.val; omega
    | ⟨1, _⟩ => show (o.val * 96 + k.val) / 1 % 96 = k.val; omega
    | ⟨2, _⟩ => rfl
    | ⟨3, _⟩ => rfl
  · unfold val_main_v0
    refine pad_image _ _ (fun _ => Ideal.ofBits_zero_f32) _ _ _ _ _ _ _ rfl rfl ?_ ?_
    · show ((_ : ℕ) : ℤ) = (y.val : ℤ) + (2 : ℤ) - 1 + 1
      push_cast
      ring
    · show ((_ : ℕ) : ℤ) = (x.val : ℤ) + (0 : ℤ) - 1 + 1
      push_cast
      ring

/-- Layer 1, tap (2, 1). -/
theorem tap1_21 (b : Fin 2) (o : Fin 64) (y x : Fin 384) :
    val_main_v46 (F := Ideal) x0 x1 (ValueIdx.ix4 b o y x) = tap x1 (image x0 b) o 2 1 y.val x.val := by
  rw [val_main_v46_apply, val_main_v45_apply]
  refine Finset.sum_congr rfl fun k _ => ?_
  rw [mul_comm, val_main_v43_apply, val_main_v42_apply, val_main_v44_apply]
  refine congrArg₂ (· * ·) (congrArg x1 (funext fun a => Fin.ext ?_)) ?_
  · have := o.isLt
    have := k.isLt
    match a with
    | ⟨0, _⟩ => show (o.val * 96 + k.val) / 96 = o.val; omega
    | ⟨1, _⟩ => show (o.val * 96 + k.val) / 1 % 96 = k.val; omega
    | ⟨2, _⟩ => rfl
    | ⟨3, _⟩ => rfl
  · unfold val_main_v0
    refine pad_image _ _ (fun _ => Ideal.ofBits_zero_f32) _ _ _ _ _ _ _ rfl rfl ?_ ?_
    · show ((_ : ℕ) : ℤ) = (y.val : ℤ) + (2 : ℤ) - 1 + 1
      push_cast
      ring
    · show ((_ : ℕ) : ℤ) = (x.val : ℤ) + (1 : ℤ) - 1 + 1
      push_cast
      ring

/-- Layer 1, tap (2, 2). -/
theorem tap1_22 (b : Fin 2) (o : Fin 64) (y x : Fin 384) :
    val_main_v52 (F := Ideal) x0 x1 (ValueIdx.ix4 b o y x) = tap x1 (image x0 b) o 2 2 y.val x.val := by
  rw [val_main_v52_apply, val_main_v51_apply]
  refine Finset.sum_congr rfl fun k _ => ?_
  rw [mul_comm, val_main_v49_apply, val_main_v48_apply, val_main_v50_apply]
  refine congrArg₂ (· * ·) (congrArg x1 (funext fun a => Fin.ext ?_)) ?_
  · have := o.isLt
    have := k.isLt
    match a with
    | ⟨0, _⟩ => show (o.val * 96 + k.val) / 96 = o.val; omega
    | ⟨1, _⟩ => show (o.val * 96 + k.val) / 1 % 96 = k.val; omega
    | ⟨2, _⟩ => rfl
    | ⟨3, _⟩ => rfl
  · unfold val_main_v0
    refine pad_image _ _ (fun _ => Ideal.ofBits_zero_f32) _ _ _ _ _ _ _ rfl rfl ?_ ?_
    · show ((_ : ℕ) : ℤ) = (y.val : ℤ) + (2 : ℤ) - 1 + 1
      push_cast
      ring
    · show ((_ : ℕ) : ℤ) = (x.val : ℤ) + (2 : ℤ) - 1 + 1
      push_cast
      ring

/-- Layer 1: the convolution, bias and positive part. -/
theorem layer1 (b : Fin 2) (o : Fin 64) (y x : Fin 384) :
    val_main_v58 (F := Ideal) x0 x1 x2 (ValueIdx.ix4 b o y x) = conv x1 x2 (image x0 b) o y.val x.val := by
  rw [val_main_v58_apply, val_main_v57_apply, val_main_v56_apply, val_main_v53_apply, val_main_v47_apply, val_main_v41_apply, val_main_v35_apply, val_main_v29_apply, val_main_v23_apply, val_main_v17_apply, val_main_v11_apply, tap1_00, tap1_01, tap1_02, tap1_10, tap1_11, tap1_12, tap1_20, tap1_21, tap1_22, val_main_v55_apply, val_main_v54_apply]
  refine congrArg₂ max (congrArg₂ (· + ·) rfl (congrArg x2 (funext fun a => ?_))) Ideal.ofBits_zero_f32
  match a with
  | ⟨0, _⟩ => rfl

/-- The argument arrays as one record. -/
def args : Args where
  x := x0
  w1 := x1
  b1 := x2
  w2 := x3
  b2 := x4
  w3 := x5
  b3 := x6

/-- The first hidden layer as an image is the clipped convolution. -/
theorem image_layer1 (b : Fin 2) (k : Fin 64) :
    image (val_main_v58 (F := Ideal) x0 x1 x2) b k = clip (conv x1 x2 (image x0 b) k) := by
  funext Y X
  unfold image clip
  by_cases hi : InImage Y X
  · rw [dif_pos hi, if_pos hi, layer1]
    obtain ⟨a, _, c, _⟩ := hi
    rw [show (((⟨Y.toNat, by omega⟩ : Fin 384).val : ℕ) : ℤ) = Y from Int.toNat_of_nonneg a,
      show (((⟨X.toNat, by omega⟩ : Fin 384).val : ℕ) : ℤ) = X from Int.toNat_of_nonneg c]
    rfl
  · rw [dif_neg hi, if_neg hi]

/-- Layer 2, tap (0, 0). -/
theorem tap2_00 (b : Fin 2) (o : Fin 64) (y x : Fin 384) :
    val_main_v64 (F := Ideal) x0 x1 x2 x3 (ValueIdx.ix4 b o y x) = tap x3 (image (val_main_v58 (F := Ideal) x0 x1 x2) b) o 0 0 y.val x.val := by
  rw [val_main_v64_apply, val_main_v63_apply]
  refine Finset.sum_congr rfl fun k _ => ?_
  rw [mul_comm, val_main_v61_apply, val_main_v60_apply, val_main_v62_apply]
  refine congrArg₂ (· * ·) (congrArg x3 (funext fun a => Fin.ext ?_)) ?_
  · have := o.isLt
    have := k.isLt
    match a with
    | ⟨0, _⟩ => show (o.val * 64 + k.val) / 64 = o.val; omega
    | ⟨1, _⟩ => show (o.val * 64 + k.val) / 1 % 64 = k.val; omega
    | ⟨2, _⟩ => rfl
    | ⟨3, _⟩ => rfl
  · unfold val_main_v59
    refine pad_image _ _ (fun _ => Ideal.ofBits_zero_f32) _ _ _ _ _ _ _ rfl rfl ?_ ?_
    · show ((_ : ℕ) : ℤ) = (y.val : ℤ) + (0 : ℤ) - 1 + 1
      push_cast
      ring
    · show ((_ : ℕ) : ℤ) = (x.val : ℤ) + (0 : ℤ) - 1 + 1
      push_cast
      ring

/-- Layer 2, tap (0, 1). -/
theorem tap2_01 (b : Fin 2) (o : Fin 64) (y x : Fin 384) :
    val_main_v69 (F := Ideal) x0 x1 x2 x3 (ValueIdx.ix4 b o y x) = tap x3 (image (val_main_v58 (F := Ideal) x0 x1 x2) b) o 0 1 y.val x.val := by
  rw [val_main_v69_apply, val_main_v68_apply]
  refine Finset.sum_congr rfl fun k _ => ?_
  rw [mul_comm, val_main_v66_apply, val_main_v65_apply, val_main_v67_apply]
  refine congrArg₂ (· * ·) (congrArg x3 (funext fun a => Fin.ext ?_)) ?_
  · have := o.isLt
    have := k.isLt
    match a with
    | ⟨0, _⟩ => show (o.val * 64 + k.val) / 64 = o.val; omega
    | ⟨1, _⟩ => show (o.val * 64 + k.val) / 1 % 64 = k.val; omega
    | ⟨2, _⟩ => rfl
    | ⟨3, _⟩ => rfl
  · unfold val_main_v59
    refine pad_image _ _ (fun _ => Ideal.ofBits_zero_f32) _ _ _ _ _ _ _ rfl rfl ?_ ?_
    · show ((_ : ℕ) : ℤ) = (y.val : ℤ) + (0 : ℤ) - 1 + 1
      push_cast
      ring
    · show ((_ : ℕ) : ℤ) = (x.val : ℤ) + (1 : ℤ) - 1 + 1
      push_cast
      ring

/-- Layer 2, tap (0, 2). -/
theorem tap2_02 (b : Fin 2) (o : Fin 64) (y x : Fin 384) :
    val_main_v75 (F := Ideal) x0 x1 x2 x3 (ValueIdx.ix4 b o y x) = tap x3 (image (val_main_v58 (F := Ideal) x0 x1 x2) b) o 0 2 y.val x.val := by
  rw [val_main_v75_apply, val_main_v74_apply]
  refine Finset.sum_congr rfl fun k _ => ?_
  rw [mul_comm, val_main_v72_apply, val_main_v71_apply, val_main_v73_apply]
  refine congrArg₂ (· * ·) (congrArg x3 (funext fun a => Fin.ext ?_)) ?_
  · have := o.isLt
    have := k.isLt
    match a with
    | ⟨0, _⟩ => show (o.val * 64 + k.val) / 64 = o.val; omega
    | ⟨1, _⟩ => show (o.val * 64 + k.val) / 1 % 64 = k.val; omega
    | ⟨2, _⟩ => rfl
    | ⟨3, _⟩ => rfl
  · unfold val_main_v59
    refine pad_image _ _ (fun _ => Ideal.ofBits_zero_f32) _ _ _ _ _ _ _ rfl rfl ?_ ?_
    · show ((_ : ℕ) : ℤ) = (y.val : ℤ) + (0 : ℤ) - 1 + 1
      push_cast
      ring
    · show ((_ : ℕ) : ℤ) = (x.val : ℤ) + (2 : ℤ) - 1 + 1
      push_cast
      ring

/-- Layer 2, tap (1, 0). -/
theorem tap2_10 (b : Fin 2) (o : Fin 64) (y x : Fin 384) :
    val_main_v81 (F := Ideal) x0 x1 x2 x3 (ValueIdx.ix4 b o y x) = tap x3 (image (val_main_v58 (F := Ideal) x0 x1 x2) b) o 1 0 y.val x.val := by
  rw [val_main_v81_apply, val_main_v80_apply]
  refine Finset.sum_congr rfl fun k _ => ?_
  rw [mul_comm, val_main_v78_apply, val_main_v77_apply, val_main_v79_apply]
  refine congrArg₂ (· * ·) (congrArg x3 (funext fun a => Fin.ext ?_)) ?_
  · have := o.isLt
    have := k.isLt
    match a with
    | ⟨0, _⟩ => show (o.val * 64 + k.val) / 64 = o.val; omega
    | ⟨1, _⟩ => show (o.val * 64 + k.val) / 1 % 64 = k.val; omega
    | ⟨2, _⟩ => rfl
    | ⟨3, _⟩ => rfl
  · unfold val_main_v59
    refine pad_image _ _ (fun _ => Ideal.ofBits_zero_f32) _ _ _ _ _ _ _ rfl rfl ?_ ?_
    · show ((_ : ℕ) : ℤ) = (y.val : ℤ) + (1 : ℤ) - 1 + 1
      push_cast
      ring
    · show ((_ : ℕ) : ℤ) = (x.val : ℤ) + (0 : ℤ) - 1 + 1
      push_cast
      ring

/-- Layer 2, tap (1, 1). -/
theorem tap2_11 (b : Fin 2) (o : Fin 64) (y x : Fin 384) :
    val_main_v87 (F := Ideal) x0 x1 x2 x3 (ValueIdx.ix4 b o y x) = tap x3 (image (val_main_v58 (F := Ideal) x0 x1 x2) b) o 1 1 y.val x.val := by
  rw [val_main_v87_apply, val_main_v86_apply]
  refine Finset.sum_congr rfl fun k _ => ?_
  rw [mul_comm, val_main_v84_apply, val_main_v83_apply, val_main_v85_apply]
  refine congrArg₂ (· * ·) (congrArg x3 (funext fun a => Fin.ext ?_)) ?_
  · have := o.isLt
    have := k.isLt
    match a with
    | ⟨0, _⟩ => show (o.val * 64 + k.val) / 64 = o.val; omega
    | ⟨1, _⟩ => show (o.val * 64 + k.val) / 1 % 64 = k.val; omega
    | ⟨2, _⟩ => rfl
    | ⟨3, _⟩ => rfl
  · unfold val_main_v59
    refine pad_image _ _ (fun _ => Ideal.ofBits_zero_f32) _ _ _ _ _ _ _ rfl rfl ?_ ?_
    · show ((_ : ℕ) : ℤ) = (y.val : ℤ) + (1 : ℤ) - 1 + 1
      push_cast
      ring
    · show ((_ : ℕ) : ℤ) = (x.val : ℤ) + (1 : ℤ) - 1 + 1
      push_cast
      ring

/-- Layer 2, tap (1, 2). -/
theorem tap2_12 (b : Fin 2) (o : Fin 64) (y x : Fin 384) :
    val_main_v93 (F := Ideal) x0 x1 x2 x3 (ValueIdx.ix4 b o y x) = tap x3 (image (val_main_v58 (F := Ideal) x0 x1 x2) b) o 1 2 y.val x.val := by
  rw [val_main_v93_apply, val_main_v92_apply]
  refine Finset.sum_congr rfl fun k _ => ?_
  rw [mul_comm, val_main_v90_apply, val_main_v89_apply, val_main_v91_apply]
  refine congrArg₂ (· * ·) (congrArg x3 (funext fun a => Fin.ext ?_)) ?_
  · have := o.isLt
    have := k.isLt
    match a with
    | ⟨0, _⟩ => show (o.val * 64 + k.val) / 64 = o.val; omega
    | ⟨1, _⟩ => show (o.val * 64 + k.val) / 1 % 64 = k.val; omega
    | ⟨2, _⟩ => rfl
    | ⟨3, _⟩ => rfl
  · unfold val_main_v59
    refine pad_image _ _ (fun _ => Ideal.ofBits_zero_f32) _ _ _ _ _ _ _ rfl rfl ?_ ?_
    · show ((_ : ℕ) : ℤ) = (y.val : ℤ) + (1 : ℤ) - 1 + 1
      push_cast
      ring
    · show ((_ : ℕ) : ℤ) = (x.val : ℤ) + (2 : ℤ) - 1 + 1
      push_cast
      ring

/-- Layer 2, tap (2, 0). -/
theorem tap2_20 (b : Fin 2) (o : Fin 64) (y x : Fin 384) :
    val_main_v99 (F := Ideal) x0 x1 x2 x3 (ValueIdx.ix4 b o y x) = tap x3 (image (val_main_v58 (F := Ideal) x0 x1 x2) b) o 2 0 y.val x.val := by
  rw [val_main_v99_apply, val_main_v98_apply]
  refine Finset.sum_congr rfl fun k _ => ?_
  rw [mul_comm, val_main_v96_apply, val_main_v95_apply, val_main_v97_apply]
  refine congrArg₂ (· * ·) (congrArg x3 (funext fun a => Fin.ext ?_)) ?_
  · have := o.isLt
    have := k.isLt
    match a with
    | ⟨0, _⟩ => show (o.val * 64 + k.val) / 64 = o.val; omega
    | ⟨1, _⟩ => show (o.val * 64 + k.val) / 1 % 64 = k.val; omega
    | ⟨2, _⟩ => rfl
    | ⟨3, _⟩ => rfl
  · unfold val_main_v59
    refine pad_image _ _ (fun _ => Ideal.ofBits_zero_f32) _ _ _ _ _ _ _ rfl rfl ?_ ?_
    · show ((_ : ℕ) : ℤ) = (y.val : ℤ) + (2 : ℤ) - 1 + 1
      push_cast
      ring
    · show ((_ : ℕ) : ℤ) = (x.val : ℤ) + (0 : ℤ) - 1 + 1
      push_cast
      ring

/-- Layer 2, tap (2, 1). -/
theorem tap2_21 (b : Fin 2) (o : Fin 64) (y x : Fin 384) :
    val_main_v105 (F := Ideal) x0 x1 x2 x3 (ValueIdx.ix4 b o y x) = tap x3 (image (val_main_v58 (F := Ideal) x0 x1 x2) b) o 2 1 y.val x.val := by
  rw [val_main_v105_apply, val_main_v104_apply]
  refine Finset.sum_congr rfl fun k _ => ?_
  rw [mul_comm, val_main_v102_apply, val_main_v101_apply, val_main_v103_apply]
  refine congrArg₂ (· * ·) (congrArg x3 (funext fun a => Fin.ext ?_)) ?_
  · have := o.isLt
    have := k.isLt
    match a with
    | ⟨0, _⟩ => show (o.val * 64 + k.val) / 64 = o.val; omega
    | ⟨1, _⟩ => show (o.val * 64 + k.val) / 1 % 64 = k.val; omega
    | ⟨2, _⟩ => rfl
    | ⟨3, _⟩ => rfl
  · unfold val_main_v59
    refine pad_image _ _ (fun _ => Ideal.ofBits_zero_f32) _ _ _ _ _ _ _ rfl rfl ?_ ?_
    · show ((_ : ℕ) : ℤ) = (y.val : ℤ) + (2 : ℤ) - 1 + 1
      push_cast
      ring
    · show ((_ : ℕ) : ℤ) = (x.val : ℤ) + (1 : ℤ) - 1 + 1
      push_cast
      ring

/-- Layer 2, tap (2, 2). -/
theorem tap2_22 (b : Fin 2) (o : Fin 64) (y x : Fin 384) :
    val_main_v111 (F := Ideal) x0 x1 x2 x3 (ValueIdx.ix4 b o y x) = tap x3 (image (val_main_v58 (F := Ideal) x0 x1 x2) b) o 2 2 y.val x.val := by
  rw [val_main_v111_apply, val_main_v110_apply]
  refine Finset.sum_congr rfl fun k _ => ?_
  rw [mul_comm, val_main_v108_apply, val_main_v107_apply, val_main_v109_apply]
  refine congrArg₂ (· * ·) (congrArg x3 (funext fun a => Fin.ext ?_)) ?_
  · have := o.isLt
    have := k.isLt
    match a with
    | ⟨0, _⟩ => show (o.val * 64 + k.val) / 64 = o.val; omega
    | ⟨1, _⟩ => show (o.val * 64 + k.val) / 1 % 64 = k.val; omega
    | ⟨2, _⟩ => rfl
    | ⟨3, _⟩ => rfl
  · unfold val_main_v59
    refine pad_image _ _ (fun _ => Ideal.ofBits_zero_f32) _ _ _ _ _ _ _ rfl rfl ?_ ?_
    · show ((_ : ℕ) : ℤ) = (y.val : ℤ) + (2 : ℤ) - 1 + 1
      push_cast
      ring
    · show ((_ : ℕ) : ℤ) = (x.val : ℤ) + (2 : ℤ) - 1 + 1
      push_cast
      ring

/-- Layer 2: the convolution, bias and positive part. -/
theorem layer2 (b : Fin 2) (o : Fin 64) (y x : Fin 384) :
    val_main_v117 (F := Ideal) x0 x1 x2 x3 x4 (ValueIdx.ix4 b o y x) = conv x3 x4 (image (val_main_v58 (F := Ideal) x0 x1 x2) b) o y.val x.val := by
  rw [val_main_v117_apply, val_main_v116_apply, val_main_v115_apply, val_main_v112_apply, val_main_v106_apply, val_main_v100_apply, val_main_v94_apply, val_main_v88_apply, val_main_v82_apply, val_main_v76_apply, val_main_v70_apply, tap2_00, tap2_01, tap2_02, tap2_10, tap2_11, tap2_12, tap2_20, tap2_21, tap2_22, val_main_v114_apply, val_main_v113_apply]
  refine congrArg₂ max (congrArg₂ (· + ·) rfl (congrArg x4 (funext fun a => ?_))) Ideal.ofBits_zero_f32
  match a with
  | ⟨0, _⟩ => rfl

/-- The logits at a pixel. -/
theorem logits (b : Fin 2) (d : Fin 96) (y x : Fin 384) :
    val_main_v123 (F := Ideal) x0 x1 x2 x3 x4 x5 x6 (ValueIdx.ix4 b d y x) = logit (args x0 x1 x2 x3 x4 x5 x6) b d y.val x.val := by
  rw [val_main_v123_apply, val_main_v122_apply, val_main_v121_apply, val_main_v120_apply, val_main_v119_apply]
  refine congrArg₂ (· + ·) (Finset.sum_congr rfl fun k _ => ?_) (congrArg x6 (funext fun a => ?_))
  · rw [mul_comm, val_main_v118_apply]
    refine congrArg₂ (· * ·) (congrArg x5 (funext fun a => Fin.ext ?_)) ?_
    · have := d.isLt
      have := k.isLt
      match a with
      | ⟨0, _⟩ => show (d.val * 64 + k.val) / 64 = d.val; omega
      | ⟨1, _⟩ => show (d.val * 64 + k.val) / 1 % 64 = k.val; omega
      | ⟨2, _⟩ => rfl
      | ⟨3, _⟩ => rfl
    · refine Eq.trans (congrArg (val_main_v117 (F := Ideal) x0 x1 x2 x3 x4) (a₂ := ValueIdx.ix4 b k y x) (funext fun a => ?_)) ?_
      · match a with
        | ⟨0, _⟩ => rfl
        | ⟨1, _⟩ => rfl
        | ⟨2, _⟩ => rfl
        | ⟨3, _⟩ => rfl
      · rw [layer2, show image (val_main_v58 (F := Ideal) x0 x1 x2) b = fun k => clip (conv x1 x2 (image x0 b) k) from
          funext fun k => image_layer1 x0 x1 x2 b k]
        rfl
  · match a with
    | ⟨0, _⟩ => rfl

end Cert.RefLogits

end
-- ==== Proof.RefSoftmax.lean ====
/-
  The reference's softmax read at a pixel: `Spec.softmax` of the pixel's logits.
-/
module

public import proofs.«01_k».proof.Proof.RefLogits
public import Idealize.ShloMosaic.Lib.KernelVsHost

@[expose] public section

set_option maxRecDepth 16384

noncomputable section

namespace Cert.RefSoftmax

open Cert.ReferenceIdeal Cert.ReferenceIdeal.Gen Cert.ReferenceIdeal.Read Idealize.ShloMosaic Idealize.ShloMosaic.TcCoe Cert.Spec

/-- The host's maximum over the channels, read at a pixel. -/
theorem reduce_max (v : FVec Ideal S2x96x384x384 .f32) (h' : S2x96x384x384.ReducesTo [1] S2x384x384) (hu : 0 < S_.numel) (b : Fin 2) (y x : Fin 384) :
    Host.reduce FloatOps.maximumf v (constant (F := Ideal) S_ .f32 0xFF800000#32) h' hu (ValueIdx.ix3 b y x)
      = Finset.univ.sup fun d : Fin 96 => v (ValueIdx.ix4 b d y x) := by
  have h : S2x96x384x384.Reduces [1] S2x384x384 := by decide
  rw [Host.reduce_eq_fold_single FloatOps.maximumf v _ h' h hu]
  have hf : (v ∘ h.lift (ValueIdx.ix3 b y x)) = fun d : Fin 96 => v (ValueIdx.ix4 b d y x) := funext fun d => congrArg v (funext fun a => by
    match a with
    | ⟨0, _⟩ => rfl
    | ⟨1, _⟩ => rfl
    | ⟨2, _⟩ => rfl
    | ⟨3, _⟩ => rfl)
  rw [hf]
  show (Finset.univ : Finset (Fin 96)).fold max (Ideal.ofBits .f32 0xFF800000#32) _ = _
  rw [ofBits_bot]
  rfl

variable (x0 : S2x96x384x384.Idx → EReal) (x1 : S64x96x3x3.Idx → EReal) (x2 : S64.Idx → EReal) (x3 : S64x64x3x3.Idx → EReal)
  (x4 : S64.Idx → EReal) (x5 : S96x64x1x1.Idx → EReal) (x6 : S96.Idx → EReal)

/-- The logits of a pixel. -/
def lg (b : Fin 2) (y x : Fin 384) (d : Fin 96) : EReal := logit (RefLogits.args x0 x1 x2 x3 x4 x5 x6) b d y.val x.val

/-- The largest logit of a pixel. -/
theorem max_at (b : Fin 2) (y x : Fin 384) :
    val_main_v126 (F := Ideal) x0 x1 x2 x3 x4 x5 x6 (ValueIdx.ix3 b y x) = Finset.univ.sup (lg x0 x1 x2 x3 x4 x5 x6 b y x) := by
  have e : val_main_v124 (F := Ideal) x0 x1 x2 x3 x4 x5 x6 (ValueIdx.ix3 b y x) = Finset.univ.sup (lg x0 x1 x2 x3 x4 x5 x6 b y x) := by
    unfold val_main_v124 val_main_cst_3
    rw [reduce_max]
    exact congrArg Finset.univ.sup (funext fun d => RefLogits.logits x0 x1 x2 x3 x4 x5 x6 b d y x)
  rw [val_main_v126_apply, e, val_main_v125_apply]
  show max (Ideal.ofBits .f32 0xFF800000#32) _ = _
  rw [ofBits_bot, bot_sup_eq]

/-- The exponential of a logit less the largest. -/
theorem exp_at (b : Fin 2) (d : Fin 96) (y x : Fin 384) : val_main_v130 (F := Ideal) x0 x1 x2 x3 x4 x5 x6 (ValueIdx.ix4 b d y x)
    = Ideal.exp (lg x0 x1 x2 x3 x4 x5 x6 b y x d - Finset.univ.sup (lg x0 x1 x2 x3 x4 x5 x6 b y x)) := by
  rw [val_main_v130_apply, val_main_v129_apply, RefLogits.logits, val_main_v128_apply, val_main_v127_apply, ← max_at]
  refine congrArg (fun i => Ideal.exp (_ - val_main_v126 (F := Ideal) x0 x1 x2 x3 x4 x5 x6 i)) (funext fun a => ?_)
  match a with
  | ⟨0, _⟩ => rfl
  | ⟨1, _⟩ => rfl
  | ⟨2, _⟩ => rfl

/-- The softmax of a pixel, channels first. -/
theorem softmax_first (b : Fin 2) (d : Fin 96) (y x : Fin 384) :
    val_main_v134 (F := Ideal) x0 x1 x2 x3 x4 x5 x6 (ValueIdx.ix4 b d y x) = softmax (lg x0 x1 x2 x3 x4 x5 x6 b y x) d := by
  rw [val_main_v134_apply, exp_at, val_main_v133_apply, val_main_v132_apply, val_main_v131_apply]
  refine congrArg (Ideal.div _) (Eq.trans (congrArg₂ (· + ·) Ideal.ofBits_zero_f32 (Finset.sum_congr rfl fun k _ => ?_)) (zero_add _))
  refine Eq.trans (congrArg (val_main_v130 (F := Ideal) x0 x1 x2 x3 x4 x5 x6) (a₂ := ValueIdx.ix4 b k y x) (funext fun a => ?_)) (exp_at x0 x1 x2 x3 x4 x5 x6 b k y x)
  match a with
  | ⟨0, _⟩ => rfl
  | ⟨1, _⟩ => rfl
  | ⟨2, _⟩ => rfl
  | ⟨3, _⟩ => rfl

/-- The softmax of a pixel, channels last. -/
theorem softmax_last (b : Fin 2) (d : Fin 96) (y x : Fin 384) :
    val_main_v135 (F := Ideal) x0 x1 x2 x3 x4 x5 x6 (ValueIdx.ix4 b y x d) = softmax (lg x0 x1 x2 x3 x4 x5 x6 b y x) d := by
  rw [val_main_v135_apply, ← softmax_first]
  refine congrArg (val_main_v134 (F := Ideal) x0 x1 x2 x3 x4 x5 x6) (funext fun a => ?_)
  match a with
  | ⟨0, _⟩ => rfl
  | ⟨1, _⟩ => rfl
  | ⟨2, _⟩ => rfl
  | ⟨3, _⟩ => rfl

end Cert.RefSoftmax

end
-- ==== Proof.Scatter.lean ====
/-
  Writing one value at listed positions: the scatter whose body keeps the update, of a constant update, read at an index; and the
  positions it writes when the index vectors are the whole index.
-/
module

public import proofs.«01_k».proof.Proof.RefSoftmax

@[expose] public section

set_option maxRecDepth 16384

noncomputable section

namespace Cert.Scatter

open Cert.ReferenceIdeal Cert.ReferenceIdeal.Gen Cert.ReferenceIdeal.Read Idealize.ShloMosaic Idealize.ShloMosaic.TcCoe Cert.Spec

open Classical in
/-- A scatter of one value keeps the operand exactly where no update lands. -/
theorem scatter_const {α : Type} {w : ℕ} {s si u : Shape} (d : ScatterDims s si u) (x : s.Idx → α) (idx : IVec si w) (v : α) (i : s.Idx) :
    Host.scatter d (fun _ b => b) x idx (fun _ => v) i = if ∃ j, d.resultIdx? j idx = some i then v else x i := by
  unfold Host.scatter
  suffices h : ∀ (l : List (Fin u.numel)) (x : s.Idx → α),
      (l.foldl (fun r n => match d.resultIdx? (u.rowMajor.symm n) idx with
        | some i => fun i' => if i' = i then v else r i'
        | none => r) x) i = if ∃ n ∈ l, d.resultIdx? (u.rowMajor.symm n) idx = some i then v else x i by
    refine (h _ x).trans (if_congr ⟨?_, ?_⟩ rfl rfl)
    · rintro ⟨n, _, e⟩
      exact ⟨_, e⟩
    · rintro ⟨j, e⟩
      exact ⟨u.rowMajor j, List.mem_finRange _, by rw [Equiv.symm_apply_apply]; exact e⟩
  intro l
  induction l with
  | nil => intro x; simp
  | cons n l ih =>
    intro x
    rw [List.foldl_cons, ih]
    by_cases h : ∃ m ∈ l, d.resultIdx? (u.rowMajor.symm m) idx = some i
    · rw [if_pos h, if_pos (h.imp fun m hm => ⟨List.mem_cons_of_mem _ hm.1, hm.2⟩)]
    · rw [if_neg h]
      rcases e : d.resultIdx? (u.rowMajor.symm n) idx with _ | k
      · rw [if_neg]
        rintro ⟨m, hm, e'⟩
        rcases List.mem_cons.mp hm with rfl | hm
        · rw [e] at e'; exact absurd e' (by simp)
        · exact h ⟨m, hm, e'⟩
      · by_cases hk : i = k
        · subst hk
          rw [if_pos ⟨n, List.mem_cons_self, e⟩]
          exact if_pos rfl
        · rw [if_neg]
          · exact if_neg hk
          · rintro ⟨m, hm, e'⟩
            rcases List.mem_cons.mp hm with rfl | hm
            · rw [e] at e'; exact hk (Option.some.inj e').symm
            · exact h ⟨m, hm, e'⟩

/-- The reference's scatter record. -/
abbrev dims : ScatterDims S2x384x384x96 S2x384x384x4x4 S2x384x384x4 := scatter_S2x384x384x96_S2x384x384x4x4_S2x384x384x4_n_0123_0123_4

/-- The entry of the index array that gives component `c` of the position of update `(b, y, x, k)`. -/
theorem siIdx_at (b : Fin 2) (y x : Fin 384) (k : Fin 4) (c : Fin 4) :
    dims.siIdx (ValueIdx.ix4 b y x k) c = ValueIdx.ix5 b y x k c := by
  funext a
  match a with
  | ⟨0, _⟩ => rfl
  | ⟨1, _⟩ => rfl
  | ⟨2, _⟩ => rfl
  | ⟨3, _⟩ => rfl
  | ⟨4, _⟩ => rfl

/-- Component `a` of the position of an update. -/
theorem start_at (idx : IVec S2x384x384x4x4 32) (b : Fin 2) (y x : Fin 384) (k : Fin 4) (a : Fin 4) :
    dims.start (ValueIdx.ix4 b y x k) idx a = (idx (ValueIdx.ix5 b y x k a)).toInt := by
  have ha : a ∈ dims.scatterDimsToOperandDims := by revert a; decide
  have hc : (⟨dims.scatterDimsToOperandDims.idxOf a, List.idxOf_lt_length_iff.2 ha⟩ : Fin dims.scatterDimsToOperandDims.length) = (a : Fin 4) := by
    match a with
    | ⟨0, _⟩ => rfl
    | ⟨1, _⟩ => rfl
    | ⟨2, _⟩ => rfl
    | ⟨3, _⟩ => rfl
  unfold ScatterDims.start
  refine (dif_pos ha).trans ?_
  exact congrArg (fun i => (idx i).toInt) ((congrArg (dims.siIdx (ValueIdx.ix4 b y x k)) hc).trans (siIdx_at b y x k a))

/-- No axis carries a window. -/
theorem window_at (b : Fin 2) (y x : Fin 384) (k : Fin 4) (a : Fin 4) : dims.window (ValueIdx.ix4 b y x k) a = 0 := by
  unfold ScatterDims.window
  exact dif_neg (by revert a; decide)

/-- The signed reading of a small word. -/
theorem toInt_ofNat {n : ℕ} (h : n < 1000) : (BitVec.ofNat 32 n).toInt = (n : ℤ) := by
  rw [BitVec.toInt_eq_toNat_of_lt] <;> rw [BitVec.toNat_ofNat, Nat.mod_eq_of_lt] <;> omega

/-- The position of an update whose index vector holds a place of the operand. -/
theorem result_at (idx : IVec S2x384x384x4x4 32) (b : Fin 2) (y x : Fin 384) (k : Fin 4) (d : Fin 96)
    (h0 : idx (ValueIdx.ix5 b y x k 0) = BitVec.ofNat 32 b.val) (h1 : idx (ValueIdx.ix5 b y x k 1) = BitVec.ofNat 32 y.val)
    (h2 : idx (ValueIdx.ix5 b y x k 2) = BitVec.ofNat 32 x.val) (h3 : idx (ValueIdx.ix5 b y x k 3) = BitVec.ofNat 32 d.val) :
    dims.resultIdx? (ValueIdx.ix4 b y x k) idx = some (ValueIdx.ix4 b y x d) := by
  have key : ∀ a : Fin 4, dims.start (ValueIdx.ix4 b y x k) idx a + dims.window (ValueIdx.ix4 b y x k) a
      = (((ValueIdx.ix4 b y x d : S2x384x384x96.Idx) a).val : ℤ) := by
    intro a
    rw [start_at, window_at, Nat.cast_zero, add_zero]
    match a with
    | ⟨0, _⟩ => exact (congrArg BitVec.toInt h0).trans (toInt_ofNat (by omega))
    | ⟨1, _⟩ => exact (congrArg BitVec.toInt h1).trans (toInt_ofNat (by omega))
    | ⟨2, _⟩ => exact (congrArg BitVec.toInt h2).trans (toInt_ofNat (by omega))
    | ⟨3, _⟩ => exact (congrArg BitVec.toInt h3).trans (toInt_ofNat (by omega))
  unfold ScatterDims.resultIdx?
  refine (dif_pos fun a => ⟨by rw [key a]; exact Int.natCast_nonneg _, by rw [key a]; exact Int.ofNat_lt.mpr (Fin.isLt _)⟩).trans ?_
  refine congrArg some (funext fun a => Fin.ext ?_)
  show (dims.start (ValueIdx.ix4 b y x k) idx a + dims.window (ValueIdx.ix4 b y x k) a).toNat = _
  rw [key a, Int.toNat_natCast]

end Cert.Scatter

end
-- ==== Proof.TopFour.lean ====
/-
  The selection of the four largest of 96 logits, with no program in sight: under a strict order at the top, the kernel's
  three peelings and one comparison (`Spec.pick`) are the softmax times the mask of the first four sorted positions.
-/
module

public import proofs.«01_k».proof.Proof.Spec
public import Mathlib.Analysis.SpecialFunctions.Exp

@[expose] public section

noncomputable section

namespace Cert.TopFour

open Idealize.ShloMosaic Cert.Spec

/-- The exponential of minus infinity is zero. -/
theorem exp_bot : Ideal.exp ⊥ = 0 := rfl

/-- The exponential of a real number. -/
theorem exp_coe (r : ℝ) : Ideal.exp (r : EReal) = ((Real.exp r : ℝ) : EReal) := rfl

/-- The real number `e` to the power `x`, for `x` below infinity. -/
def expR (x : EReal) : ℝ := if x = ⊥ then 0 else Real.exp x.toReal

/-- Below infinity the exponential is a real number. -/
theorem exp_eq {x : EReal} (h : x < ⊤) : Ideal.exp x = (expR x : EReal) := by
  induction x with
  | bot => simp [expR, exp_bot]
  | coe r => simp [expR, exp_coe]
  | top => exact absurd h (lt_irrefl _)

/-- That power is not negative. -/
theorem expR_nonneg (x : EReal) : 0 ≤ expR x := by
  unfold expR; split
  · exact le_rfl
  · exact (Real.exp_pos _).le

/-- That power increases strictly. -/
theorem expR_lt {x y : EReal} (h : x < y) (hy : y < ⊤) : expR x < expR y := by
  induction y with
  | bot => exact absurd h not_lt_bot
  | top => exact absurd hy (lt_irrefl _)
  | coe r =>
    induction x with
    | bot => simp [expR, Real.exp_pos]
    | top => exact absurd (h.trans hy) (lt_irrefl _)
    | coe q => simpa [expR] using h

/-- Powers compare as their exponents do. -/
theorem expR_lt_iff {x y : EReal} (hx : x < ⊤) (hy : y < ⊤) : expR x < expR y ↔ x < y := by
  refine ⟨fun h => ?_, fun h => expR_lt h hy⟩
  by_contra hn
  rcases (not_lt.mp hn).lt_or_eq with h' | h'
  · exact absurd (expR_lt h' hx) h.le.not_gt
  · subst h'; exact lt_irrefl _ h

/-- That power increases. -/
theorem expR_le {x y : EReal} (h : x ≤ y) (hy : y < ⊤) : expR x ≤ expR y := by
  rcases h.lt_or_eq with h | h
  · exact (expR_lt h hy).le
  · rw [h]

/-- Subtracting a real number scales the exponential. -/
theorem exp_sub {x : EReal} (h : x < ⊤) (m : ℝ) : Ideal.exp (x - (m : EReal)) = ((expR x * Real.exp (-m) : ℝ) : EReal) := by
  induction x with
  | bot => simp [expR, exp_bot]
  | top => exact absurd h (lt_irrefl _)
  | coe r =>
    rw [← EReal.coe_sub, exp_coe]
    simp [expR, Real.exp_sub, Real.exp_neg, div_eq_mul_inv]

/-- A sum of real numbers, taken in the extended reals. -/
theorem coe_sum (f : Fin 96 → ℝ) : ∑ d, ((f d : ℝ) : EReal) = ((∑ d, f d : ℝ) : EReal) := by
  induction (Finset.univ : Finset (Fin 96)) using Finset.induction_on with
  | empty => simp
  | insert a s ha ih => rw [Finset.sum_insert ha, Finset.sum_insert ha, ih, EReal.coe_add]

/-- A quotient of real numbers, taken in the extended reals. -/
theorem div_coe {p q : ℝ} (hq : q ≠ 0) : Ideal.div (p : EReal) (q : EReal) = ((p / q : ℝ) : EReal) := by
  unfold Ideal.div
  rw [if_neg (by exact_mod_cast hq), ← EReal.coe_inv, ← EReal.coe_mul, div_eq_mul_inv]

/-- The logits `L` read in the order `σ`: decreasing, strictly at the first five, with the largest below infinity. -/
structure Sorted (L : Fin 96 → EReal) (σ : Fin 96 → Fin 96) : Prop where
  surj : Function.Surjective σ
  inj : Function.Injective σ
  anti : ∀ i j : Fin 96, i ≤ j → L (σ j) ≤ L (σ i)
  strict : ∀ i j : Fin 96, i.val < 4 → i < j → L (σ j) < L (σ i)
  top : L (σ 0) < ⊤

variable {L : Fin 96 → EReal} {σ : Fin 96 → Fin 96}

/-- Every logit is below infinity. -/
theorem Sorted.lt_top (h : Sorted L σ) (c : Fin 96) : L c < ⊤ := by
  obtain ⟨i, rfl⟩ := h.surj c
  exact (h.anti 0 i (Fin.zero_le i)).trans_lt h.top

/-- The largest logit is at the first place. -/
theorem Sorted.sup_eq (h : Sorted L σ) : Finset.univ.sup L = L (σ 0) := by
  refine le_antisymm (Finset.sup_le fun c _ => ?_) (Finset.le_sup (Finset.mem_univ _))
  obtain ⟨i, rfl⟩ := h.surj c
  exact h.anti 0 i (Fin.zero_le i)

/-- The largest logit is a real number. -/
theorem Sorted.exists_real (h : Sorted L σ) : ∃ m : ℝ, L (σ 0) = (m : EReal) := by
  have h1 : L (σ 1) < L (σ 0) := h.strict 0 1 (by decide) (by decide)
  refine ⟨(L (σ 0)).toReal, (EReal.coe_toReal h.top.ne ?_).symm⟩
  intro hb
  rw [hb] at h1
  exact not_lt_bot h1

/-- The sum of the exponentials is positive. -/
theorem Sorted.sum_pos (h : Sorted L σ) : 0 < ∑ d, expR (L d) := by
  refine Finset.sum_pos' (fun d _ => expR_nonneg _) ⟨σ 0, Finset.mem_univ _, ?_⟩
  obtain ⟨m, hm⟩ := h.exists_real
  rw [hm]; simp [expR, Real.exp_pos]

/-- The softmax of such logits is each exponential over their sum: the subtracted maximum cancels. -/
theorem Sorted.softmax_eq (h : Sorted L σ) (c : Fin 96) :
    softmax L c = ((expR (L c) / ∑ d, expR (L d) : ℝ) : EReal) := by
  obtain ⟨m, hm⟩ := h.exists_real
  have hk := (Real.exp_pos (-m)).ne'
  unfold softmax
  rw [h.sup_eq, hm]
  simp only [exp_sub (h.lt_top _) m]
  rw [coe_sum, ← Finset.sum_mul, div_coe (mul_ne_zero h.sum_pos.ne' hk), mul_div_mul_right _ _ hk]

/-- The softmax orders the channels as the logits do. -/
theorem Sorted.softmax_lt (h : Sorted L σ) (c d : Fin 96) : softmax L c < softmax L d ↔ L c < L d := by
  rw [h.softmax_eq, h.softmax_eq, EReal.coe_lt_coe_iff, div_lt_div_iff_of_pos_right h.sum_pos, expR_lt_iff (h.lt_top _) (h.lt_top _)]

/-- The exponentials with the first `j` positions set to minus one. -/
def cut (L : Fin 96 → EReal) (σ : Fin 96 → Fin 96) (j : ℕ) (c : Fin 96) : EReal :=
  if ∃ i : Fin 96, i.val < j ∧ σ i = c then -1 else (expR (L c) : EReal)

/-- The cut exponentials along the order. -/
theorem Sorted.cut_apply (h : Sorted L σ) (j : ℕ) (i : Fin 96) :
    cut L σ j (σ i) = if i.val < j then -1 else (expR (L (σ i)) : EReal) := by
  unfold cut
  refine if_congr ⟨fun ⟨k, hk, e⟩ => h.inj e ▸ hk, fun hi => ⟨i, hi, rfl⟩⟩ rfl rfl

/-- Minus one is below every exponential. -/
theorem neg_one_lt (x : EReal) : (-1 : EReal) < (expR x : EReal) := by
  have : ((-1 : ℝ) : EReal) < (expR x : EReal) := by
    rw [EReal.coe_lt_coe_iff]; linarith [expR_nonneg x]
  simpa using this

/-- The largest of the cut exponentials is at the first place left. -/
theorem Sorted.sup_cut (h : Sorted L σ) (j : Fin 96) : Finset.univ.sup (cut L σ j.val) = (expR (L (σ j)) : EReal) := by
  refine le_antisymm (Finset.sup_le fun c _ => ?_) ?_
  · obtain ⟨i, rfl⟩ := h.surj c
    rw [h.cut_apply]
    split
    · exact (neg_one_lt _).le
    · next hi => exact EReal.coe_le_coe_iff.mpr (expR_le (h.anti j i (Fin.le_def.mpr (not_lt.mp hi))) (h.lt_top _))
  · have := Finset.le_sup (f := cut L σ j.val) (Finset.mem_univ (σ j))
    rwa [h.cut_apply, if_neg (lt_irrefl _)] at this

/-- One peeling sets the next position to minus one. -/
theorem Sorted.peel_cut (h : Sorted L σ) (j : Fin 96) (hj : j.val < 4) : peel (cut L σ j.val) = cut L σ (j.val + 1) := by
  funext c
  obtain ⟨i, rfl⟩ := h.surj c
  unfold peel
  rw [h.sup_cut, h.cut_apply, h.cut_apply]
  rcases lt_trichotomy i.val j.val with hi | hi | hi
  · rw [if_pos hi, if_pos (show i.val < j.val + 1 by omega), ite_self]
  · obtain rfl : i = j := Fin.ext hi
    rw [if_neg (lt_irrefl _), if_pos rfl, if_pos (by omega)]
  · rw [if_neg (show ¬ i.val < j.val by omega), if_neg (show ¬ i.val < j.val + 1 by omega), if_neg]
    exact (EReal.coe_lt_coe_iff.mpr (expR_lt (h.strict j i hj hi) (h.lt_top _))).ne

/-- With nothing cut the exponentials are left. -/
theorem Sorted.cut_zero (h : Sorted L σ) : (fun d => Ideal.exp (L d)) = cut L σ 0 := by
  funext d
  unfold cut
  rw [if_neg (by rintro ⟨i, hi, _⟩; exact absurd hi (Nat.not_lt_zero _)), exp_eq (h.lt_top d)]

/-- The kernel's selection is the softmax times the mask of the first four positions. -/
theorem Sorted.pick_eq (h : Sorted L σ) (c : Fin 96) :
    pick L c = softmax L c * (if ∃ i : Fin 96, i.val < 4 ∧ σ i = c then 1 else 0) := by
  have p0 := h.peel_cut 0 (by decide)
  have p1 := h.peel_cut 1 (by decide)
  have p2 := h.peel_cut 2 (by decide)
  have s3 := h.sup_cut 3
  simp only [Fin.val_zero, Fin.val_one, Fin.val_two, zero_add] at p0 p1 p2
  unfold pick
  have hs : ∑ d, Ideal.exp (L d) = ∑ d, ((expR (L d) : ℝ) : EReal) := Finset.sum_congr rfl fun d _ => exp_eq (h.lt_top d)
  rw [hs, exp_eq (h.lt_top c), h.cut_zero, p0, p1, p2, show (2 + 1 : ℕ) = (3 : Fin 96).val from rfl, s3, h.softmax_eq]
  rw [coe_sum, show (1 : EReal) = ((1 : ℝ) : EReal) from rfl, div_coe h.sum_pos.ne', ← EReal.coe_mul]
  obtain ⟨i, rfl⟩ := h.surj c
  have hm : (∃ k : Fin 96, k.val < 4 ∧ σ k = σ i) ↔ i.val < 4 := ⟨fun ⟨k, hk, e⟩ => h.inj e ▸ hk, fun hi => ⟨i, hi, rfl⟩⟩
  rw [if_congr hm rfl rfl]
  by_cases hi : i.val < 4
  · rw [if_pos hi, if_pos (EReal.coe_le_coe_iff.mpr (expR_le (h.anti i 3 (Fin.le_def.mpr (by change i.val ≤ 3; omega))) (h.lt_top _))),
      ← EReal.coe_mul]
    congr 1
    rw [mul_one_div, mul_one]
  · have hlt : expR (L (σ i)) < expR (L (σ 3)) :=
      expR_lt (h.strict 3 i (by decide) (Fin.lt_def.mpr (by change 3 < i.val; omega))) (h.lt_top _)
    rw [if_neg hi, if_neg (not_le.mpr (EReal.coe_lt_coe_iff.mpr hlt)), mul_zero]

end Cert.TopFour

end
-- ==== Proof.Order.lean ====
/-
  The order in which the top-k operation lists the entries of a row, and the two results of that operation read at an index.
-/
module

public import proofs.«01_k».proof.Proof.TopFour
public import Idealize.ShloMosaic.Lib.SortFacts
public import Idealize.ShloMosaic.Lib.Pipeline.Value
public import Idealize.ShloMosaic.Lib.ValueIdx

@[expose] public section

set_option maxRecDepth 16384

noncomputable section

namespace Cert.Order

open Idealize.ShloMosaic Cert.Spec Cert.TopFour

/-- The position listed at each place when a row is sorted from the largest entry down. -/
def order (L : Fin 96 → EReal) : Fin 96 → Fin 96 := sortedFrom fun k k' => decide (L k' < L k)

/-- The order lists every position. -/
theorem order_surj (L : Fin 96 → EReal) : Function.Surjective (order L) := sortedFrom_surjective _

/-- The order lists no position twice. -/
theorem order_inj (L : Fin 96 → EReal) : Function.Injective (order L) := sortedFrom_injective _

/-- Later places hold no larger entries. -/
theorem order_anti (L : Fin 96 → EReal) (i j : Fin 96) (h : i ≤ j) : L (order L j) ≤ L (order L i) := by
  rcases h.lt_or_eq with h | rfl
  · have := sortedFrom_noInversion (fun k k' => decide (L k' < L k)) (fun k k' => decide (L k' < L k))
      (fun a b h => by simp only [decide_eq_true_eq, decide_eq_false_iff_not, not_lt] at h ⊢; exact h.le)
      (fun a b h => h)
      (fun a b c h h' => by simp only [decide_eq_false_iff_not, not_lt] at h h' ⊢; exact h.trans h') i j h
    exact not_lt.mp (of_decide_eq_false this)
  · exact le_rfl

/-- Rows that compare alike are listed alike. -/
theorem order_congr {L M : Fin 96 → EReal} (h : ∀ c d, L c < L d ↔ M c < M d) : order L = order M := by
  unfold order
  exact congrArg sortedFrom (funext fun k => funext fun k' => decide_eq_decide.mpr (h k' k))

/-- Strict descent at the first five places, and a largest entry below infinity, give the full statement of the order. -/
theorem sorted_of {L : Fin 96 → EReal} (h : ∀ i : Fin 96, ∀ hi : i.val < 4, L (order L ⟨i.val + 1, by omega⟩) < L (order L i))
    (ht : L (order L 0) < ⊤) : Sorted L (order L) where
  surj := order_surj L
  inj := order_inj L
  anti := order_anti L
  strict := fun i j hi hij => (order_anti L ⟨i.val + 1, by omega⟩ j (Fin.le_def.mpr hij)).trans_lt (h i hi)
  top := ht

/-- The row sorted by the top-k operation, at each place. -/
theorem sort_row (x : FVec Ideal ⟨4, ![2, 384, 384, 96]⟩ .f32) (b : Fin 2) (y z : Fin 384) :
    (sortedFrom fun k k' : Fin 96 => FloatOps.cmpfTotal (F := Ideal) (φ := .f32) .gt (x (ValueIdx.ix4 b y z k)) (x (ValueIdx.ix4 b y z k')) == 1#1)
      = order fun d => x (ValueIdx.ix4 b y z d) := by
  unfold order
  refine congrArg sortedFrom (funext fun k => funext fun k' => ?_)
  show (BitVec.ofBool (decide (x (ValueIdx.ix4 b y z k') < x (ValueIdx.ix4 b y z k))) == 1#1) = _
  by_cases h : x (ValueIdx.ix4 b y z k') < x (ValueIdx.ix4 b y z k) <;> simp [h]

/-- Moving an index along the last axis replaces its last coordinate. -/
theorem along_last (b : Fin 2) (y z : Fin 384) (k l : Fin 96) :
    Shape.Idx.along (s := ⟨4, ![2, 384, 384, 96]⟩) (ValueIdx.ix4 b y z k) 3 l = ValueIdx.ix4 b y z l := by
  funext a
  match a with
  | ⟨0, _⟩ => rfl
  | ⟨1, _⟩ => rfl
  | ⟨2, _⟩ => rfl
  | ⟨3, _⟩ => rfl

/-- The place of the longer list that a place of the shorter one is cut from. -/
theorem slice_start {n : ℕ} (hn : n ≤ 96) (b : Fin 2) (y z : Fin 384) (i : Fin n) (a : Fin 4) :
    ((ValueIdx.ix4 b y z (i.castLE hn) : (⟨4, ![2, 384, 384, 96]⟩ : Shape).Idx) a).val
      = 0 + ((ValueIdx.ix4 b y z i : (⟨4, ![2, 384, 384, n]⟩ : Shape).Idx) a).val := by
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- The sorted entries: the entry at each place of the order. -/
theorem sort_value (x : FVec Ideal ⟨4, ![2, 384, 384, 96]⟩ .f32) (p : (⟨4, ![2, 384, 384, 96]⟩ : Shape).Idx → BitVec 32)
    (hp : ∀ {b : Fin 2} {y z : Fin 384} (d : Fin 96), p (ValueIdx.ix4 b y z d) = BitVec.ofNat 32 d.val) (b : Fin 2) (y z : Fin 384) (k : Fin 96) :
    (Host.sort2 ⟨4, ![2, 384, 384, 96]⟩ 3 (fun l r => FloatOps.cmpfTotal (F := Ideal) (φ := .f32) .gt l.1 r.1) x p).1 (ValueIdx.ix4 b y z k)
      = x (ValueIdx.ix4 b y z (order (fun d => x (ValueIdx.ix4 b y z d)) k)) := by
  unfold Host.sort2
  rw [dif_pos (show 3 < (⟨4, ![2, 384, 384, 96]⟩ : Shape).rank by decide)]
  rw [← sort_row]
  refine (congrArg x (along_last b y z k _)).trans ?_
  refine congrArg (fun f : Fin 96 → Fin 96 => x (ValueIdx.ix4 b y z (f k))) (congrArg sortedFrom (funext fun k' => funext fun k'' => ?_))
  exact congrArg₂ (fun p q => FloatOps.cmpfTotal (F := Ideal) (φ := .f32) .gt (x p) (x q) == 1#1) (along_last b y z k k') (along_last b y z k k'')

/-- The sorted positions: the order itself, as words. -/
theorem sort_position (x : FVec Ideal ⟨4, ![2, 384, 384, 96]⟩ .f32) (p : (⟨4, ![2, 384, 384, 96]⟩ : Shape).Idx → BitVec 32)
    (hp : ∀ {b : Fin 2} {y z : Fin 384} (d : Fin 96), p (ValueIdx.ix4 b y z d) = BitVec.ofNat 32 d.val) (b : Fin 2) (y z : Fin 384) (k : Fin 96) :
    (Host.sort2 ⟨4, ![2, 384, 384, 96]⟩ 3 (fun l r => FloatOps.cmpfTotal (F := Ideal) (φ := .f32) .gt l.1 r.1) x p).2 (ValueIdx.ix4 b y z k)
      = BitVec.ofNat 32 (order (fun d => x (ValueIdx.ix4 b y z d)) k).val := by
  unfold Host.sort2
  rw [dif_pos (show 3 < (⟨4, ![2, 384, 384, 96]⟩ : Shape).rank by decide)]
  rw [← sort_row]
  refine ((congrArg p (along_last b y z k _)).trans (hp _)).trans ?_
  refine congrArg (fun f : Fin 96 → Fin 96 => BitVec.ofNat 32 (f k).val) (congrArg sortedFrom (funext fun k' => funext fun k'' => ?_))
  exact congrArg₂ (fun p q => FloatOps.cmpfTotal (F := Ideal) (φ := .f32) .gt (x p) (x q) == 1#1) (along_last b y z k k') (along_last b y z k k'')

/-- The values of the top-k operation: the entry at each place of the order. -/
theorem topK_value {n : ℕ} (hn : n ≤ 96) (x : FVec Ideal ⟨4, ![2, 384, 384, 96]⟩ .f32)
    (h : (⟨4, ![2, 384, 384, 96]⟩ : Shape).Slices (fun _ => 0) ⟨4, ![2, 384, 384, n]⟩) (b : Fin 2) (y z : Fin 384) (i : Fin n) :
    (Host.topK ⟨4, ![2, 384, 384, n]⟩ 3 (FloatOps.cmpfTotal .gt) x h).1 (ValueIdx.ix4 b y z i)
      = x (ValueIdx.ix4 b y z (order (fun d => x (ValueIdx.ix4 b y z d)) (i.castLE hn))) := by
  dsimp only [Host.topK]
  refine (extractStridedSlice_apply _ _ h (ValueIdx.ix4 b y z i) (ValueIdx.ix4 b y z (i.castLE hn)) (slice_start hn b y z i)).trans ?_
  exact sort_value x _ (fun d => rfl) b y z (i.castLE hn)

/-- The positions of the top-k operation: the order itself, as words. -/
theorem topK_position {n : ℕ} (hn : n ≤ 96) (x : FVec Ideal ⟨4, ![2, 384, 384, 96]⟩ .f32)
    (h : (⟨4, ![2, 384, 384, 96]⟩ : Shape).Slices (fun _ => 0) ⟨4, ![2, 384, 384, n]⟩) (b : Fin 2) (y z : Fin 384) (i : Fin n) :
    (Host.topK ⟨4, ![2, 384, 384, n]⟩ 3 (FloatOps.cmpfTotal .gt) x h).2 (ValueIdx.ix4 b y z i)
      = BitVec.ofNat 32 (order (fun d => x (ValueIdx.ix4 b y z d)) (i.castLE hn)).val := by
  dsimp only [Host.topK]
  refine (extractStridedSlice_apply _ _ h (ValueIdx.ix4 b y z i) (ValueIdx.ix4 b y z (i.castLE hn)) (slice_start hn b y z i)).trans ?_
  exact sort_position x _ (fun d => rfl) b y z (i.castLE hn)

end Cert.Order

end
-- ==== Proof.RefMask.lean ====
/-
  The reference's mask of the four largest channels: one at the channels that the top-k operation lists, zero elsewhere.
-/
module

public import proofs.«01_k».proof.Proof.Scatter
public import proofs.«01_k».proof.Proof.Order

@[expose] public section

set_option maxRecDepth 16384

noncomputable section

namespace Cert.RefMask

open Cert.ReferenceIdeal Cert.ReferenceIdeal.Gen Cert.ReferenceIdeal.Read Idealize.ShloMosaic Idealize.ShloMosaic.TcCoe Cert.Spec Cert.RefSoftmax

/-- A small position is not negative, so the reference's wrap-around of negative positions leaves it. -/
theorem keep_word {n : ℕ} (h : n < 1000) (s : BitVec 32) :
    Scalar.select (IntOp.cmpi .slt (BitVec.ofNat 32 n) 0#32) (IntOp.addi (BitVec.ofNat 32 n) s) (BitVec.ofNat 32 n) = BitVec.ofNat 32 n := by
  have e : IntOp.cmpi .slt (BitVec.ofNat 32 n) 0#32 = 0#1 := by
    show BitVec.ofBool ((BitVec.ofNat 32 n).slt 0#32) = 0#1
    rw [BitVec.slt_eq_decide, Cert.Scatter.toInt_ofNat h]
    rw [show (0#32).toInt = 0 from rfl, decide_eq_false (by omega)]
    rfl
  rw [e]
  exact if_neg (by decide)

/-- The image number of an update. -/
theorem word_0 (b : Fin 2) (y x : Fin 384) (k : Fin 4) (o : Fin 1) : val_main_v166 (F := Ideal) (ValueIdx.ix5 b y x k o) = BitVec.ofNat 32 b.val := by
  rw [val_main_v166_apply, val_main_v163_apply, val_main_v147_apply, val_main_v144_apply, val_main_v146_apply, val_main_v137_apply, val_main_v136_apply,
    val_main_v143_apply]
  exact keep_word (by show b.val < 1000; omega) _

/-- The row of an update. -/
theorem word_1 (b : Fin 2) (y x : Fin 384) (k : Fin 4) (o : Fin 1) : val_main_v167 (F := Ideal) (ValueIdx.ix5 b y x k o) = BitVec.ofNat 32 y.val := by
  rw [val_main_v167_apply, val_main_v164_apply, val_main_v152_apply, val_main_v149_apply, val_main_v151_apply, val_main_v139_apply, val_main_v138_apply,
    val_main_v148_apply]
  exact keep_word (by show y.val < 1000; omega) _

/-- The column of an update. -/
theorem word_2 (b : Fin 2) (y x : Fin 384) (k : Fin 4) (o : Fin 1) : val_main_v168 (F := Ideal) (ValueIdx.ix5 b y x k o) = BitVec.ofNat 32 x.val := by
  rw [val_main_v168_apply, val_main_v165_apply, val_main_v157_apply, val_main_v154_apply, val_main_v156_apply, val_main_v141_apply, val_main_v140_apply,
    val_main_v153_apply]
  exact keep_word (by show x.val < 1000; omega) _

variable (x0 : S2x96x384x384.Idx → EReal) (x1 : S64x96x3x3.Idx → EReal) (x2 : S64.Idx → EReal) (x3 : S64x64x3x3.Idx → EReal)
  (x4 : S64.Idx → EReal) (x5 : S96x64x1x1.Idx → EReal) (x6 : S96.Idx → EReal)

/-- The order of a pixel's softmax. -/
def ord (b : Fin 2) (y x : Fin 384) : Fin 96 → Fin 96 := Cert.Order.order (softmax (lg x0 x1 x2 x3 x4 x5 x6 b y x))

/-- The listed channels. -/
theorem indices_at (b : Fin 2) (y x : Fin 384) (k : Fin 4) : val_main_indices (F := Ideal) x0 x1 x2 x3 x4 x5 x6 (ValueIdx.ix4 b y x k)
    = BitVec.ofNat 32 (ord x0 x1 x2 x3 x4 x5 x6 b y x (k.castLE (by decide))).val := by
  unfold val_main_indices ord
  refine (Cert.Order.topK_position (by decide) _ _ b y x k).trans ?_
  rw [show (fun d => val_main_v135 (F := Ideal) x0 x1 x2 x3 x4 x5 x6 (ValueIdx.ix4 b y x d)) = softmax (lg x0 x1 x2 x3 x4 x5 x6 b y x) from
    funext fun d => softmax_last x0 x1 x2 x3 x4 x5 x6 b d y x]

/-- The channel of an update. -/
theorem word_3 (b : Fin 2) (y x : Fin 384) (k : Fin 4) (o : Fin 1) : val_main_v169 (F := Ideal) x0 x1 x2 x3 x4 x5 x6 (ValueIdx.ix5 b y x k o)
    = BitVec.ofNat 32 (ord x0 x1 x2 x3 x4 x5 x6 b y x (k.castLE (by decide))).val := by
  have e : idx_main_v169 (ValueIdx.ix5 b y x k o) = ValueIdx.ix4 b y x k := funext fun a => by
    match a with
    | ⟨0, _⟩ => rfl
    | ⟨1, _⟩ => rfl
    | ⟨2, _⟩ => rfl
    | ⟨3, _⟩ => rfl
  rw [val_main_v169_apply, e, val_main_v162_apply, val_main_v159_apply, val_main_v161_apply, indices_at, val_main_v158_apply]
  exact keep_word (by have := (ord x0 x1 x2 x3 x4 x5 x6 b y x (k.castLE (by decide))).isLt; omega) _

/-- The index array joins the four components along its last axis. -/
theorem joined (p0 p1 p2 p3 : IVec S2x384x384x4x1 32)
    (h : Shape.Concatenates [S2x384x384x4x1, S2x384x384x4x1, S2x384x384x4x1, S2x384x384x4x1] S2x384x384x4x4 4) (b : Fin 2) (y x : Fin 384) (k : Fin 4) :
    let v := concatenate S2x384x384x4x4 4 [⟨S2x384x384x4x1, p0⟩, ⟨S2x384x384x4x1, p1⟩, ⟨S2x384x384x4x1, p2⟩, ⟨S2x384x384x4x1, p3⟩] h
    v (ValueIdx.ix5 b y x k 0) = p0 (ValueIdx.ix5 b y x k 0) ∧ v (ValueIdx.ix5 b y x k 1) = p1 (ValueIdx.ix5 b y x k 0)
      ∧ v (ValueIdx.ix5 b y x k 2) = p2 (ValueIdx.ix5 b y x k 0) ∧ v (ValueIdx.ix5 b y x k 3) = p3 (ValueIdx.ix5 b y x k 0) := by
  have hd : ∀ (c : Fin 4) (d : Fin 5), d ≠ 4 →
      ((ValueIdx.ix5 b y x k (0 : Fin 1) : S2x384x384x4x1.Idx) d).val = ((ValueIdx.ix5 b y x k c : S2x384x384x4x4.Idx) d).val := by
    intro c d hd
    match d with
    | ⟨0, _⟩ => rfl
    | ⟨1, _⟩ => rfl
    | ⟨2, _⟩ => rfl
    | ⟨3, _⟩ => rfl
    | ⟨4, _⟩ => exact absurd rfl hd
  refine ⟨?_, ?_, ?_, ?_⟩
  · exact concatenate_apply_piece (t := S2x384x384x4x4) 4 [⟨S2x384x384x4x1, p0⟩, ⟨S2x384x384x4x1, p1⟩, ⟨S2x384x384x4x1, p2⟩, ⟨S2x384x384x4x1, p3⟩] h
      (ValueIdx.ix5 b y x k 0) 0 (by simp) _ p0 rfl rfl 0 rfl (ValueIdx.ix5 b y x k 0) (hd 0) rfl
  · exact concatenate_apply_piece (t := S2x384x384x4x4) 4 [⟨S2x384x384x4x1, p0⟩, ⟨S2x384x384x4x1, p1⟩, ⟨S2x384x384x4x1, p2⟩, ⟨S2x384x384x4x1, p3⟩] h
      (ValueIdx.ix5 b y x k 1) 1 (by simp) _ p1 rfl rfl 1 rfl (ValueIdx.ix5 b y x k 0) (hd 1) rfl
  · exact concatenate_apply_piece (t := S2x384x384x4x4) 4 [⟨S2x384x384x4x1, p0⟩, ⟨S2x384x384x4x1, p1⟩, ⟨S2x384x384x4x1, p2⟩, ⟨S2x384x384x4x1, p3⟩] h
      (ValueIdx.ix5 b y x k 2) 2 (by simp) _ p2 rfl rfl 2 rfl (ValueIdx.ix5 b y x k 0) (hd 2) rfl
  · exact concatenate_apply_piece (t := S2x384x384x4x4) 4 [⟨S2x384x384x4x1, p0⟩, ⟨S2x384x384x4x1, p1⟩, ⟨S2x384x384x4x1, p2⟩, ⟨S2x384x384x4x1, p3⟩] h
      (ValueIdx.ix5 b y x k 3) 3 (by simp) _ p3 rfl rfl 3 rfl (ValueIdx.ix5 b y x k 0) (hd 3) rfl

/-- The position of an update: its pixel and its listed channel. -/
theorem lands (b : Fin 2) (y x : Fin 384) (k : Fin 4) :
    Cert.Scatter.dims.resultIdx? (ValueIdx.ix4 b y x k) (val_main_v170 (F := Ideal) x0 x1 x2 x3 x4 x5 x6)
      = some (ValueIdx.ix4 b y x (ord x0 x1 x2 x3 x4 x5 x6 b y x (k.castLE (by decide)))) := by
  have w0 := word_0 b y x k 0
  have w1 := word_1 b y x k 0
  have w2 := word_2 b y x k 0
  have w3 := word_3 x0 x1 x2 x3 x4 x5 x6 b y x k 0
  unfold val_main_v170
  generalize val_main_v166 (F := Ideal) = p0 at w0 ⊢
  generalize val_main_v167 (F := Ideal) = p1 at w1 ⊢
  generalize val_main_v168 (F := Ideal) = p2 at w2 ⊢
  generalize val_main_v169 (F := Ideal) x0 x1 x2 x3 x4 x5 x6 = p3 at w3 ⊢
  generalize ord x0 x1 x2 x3 x4 x5 x6 b y x (k.castLE (by decide)) = d at w3 ⊢
  obtain ⟨e0, e1, e2, e3⟩ := joined p0 p1 p2 p3 concatenates_S2x384x384x4x1_S2x384x384x4x1_S2x384x384x4x1_S2x384x384x4x1_S2x384x384x4x4_d4 b y x k
  exact Cert.Scatter.result_at _ b y x k d (e0.trans w0) (e1.trans w1) (e2.trans w2) (e3.trans w3)

open Classical in
/-- The mask: one at the first four channels in the order of the pixel's softmax, zero elsewhere. -/
theorem mask_at (b : Fin 2) (y x : Fin 384) (d : Fin 96) : val_main_v172 (F := Ideal) x0 x1 x2 x3 x4 x5 x6 (ValueIdx.ix4 b y x d)
    = if ∃ i : Fin 96, i.val < 4 ∧ ord x0 x1 x2 x3 x4 x5 x6 b y x i = d then (1 : EReal) else 0 := by
  have one : val_main_v171 (F := Ideal) = fun _ => (1 : EReal) := funext fun i => by
    rw [val_main_v171_apply]
    exact Ideal.ofBits_one_f32
  have zero : val_main_v142 (F := Ideal) (ValueIdx.ix4 b y x d) = (0 : EReal) := by
    rw [val_main_v142_apply]
    exact Ideal.ofBits_zero_f32
  unfold val_main_v172
  rw [one]
  refine (Cert.Scatter.scatter_const _ _ _ _ _).trans ?_
  rw [zero]
  refine if_congr ⟨?_, ?_⟩ rfl rfl
  · rintro ⟨j, e⟩
    obtain ⟨b', y', x', k, rfl⟩ : ∃ (b' : Fin 2) (y' x' : Fin 384) (k : Fin 4), j = ValueIdx.ix4 b' y' x' k := ⟨j 0, j 1, j 2, j 3, funext fun a => by
      match a with
      | ⟨0, _⟩ => rfl
      | ⟨1, _⟩ => rfl
      | ⟨2, _⟩ => rfl
      | ⟨3, _⟩ => rfl⟩
    have e := Option.some.inj ((lands x0 x1 x2 x3 x4 x5 x6 b' y' x' k).symm.trans e)
    have e0 : b' = b := congrFun e 0
    have e1 : y' = y := congrFun e 1
    have e2 : x' = x := congrFun e 2
    subst e0 e1 e2
    exact ⟨k.castLE (by decide), k.isLt, congrFun e 3⟩
  · rintro ⟨i, hi, rfl⟩
    exact ⟨ValueIdx.ix4 b y x ⟨i.val, hi⟩, lands x0 x1 x2 x3 x4 x5 x6 b y x ⟨i.val, hi⟩⟩

end Cert.RefMask

end
-- ==== Proof.Separate.lean ====
/-
  The precondition read at a pixel: the five largest logits descend strictly and the largest is below infinity, so the order of the
  logits has every property that `TopFour` asks for.
-/
module

public import proofs.«01_k».proof.Proof.RefSoftmax
public import proofs.«01_k».proof.Proof.Order
public import proofs.«01_k».proof.Proof.Gen.Pre_top_five_separate

@[expose] public section

set_option maxRecDepth 16384

noncomputable section

namespace Cert.Separate

open Cert.Pre_top_five_separate Cert.Pre_top_five_separate.Gen Idealize.ShloMosaic Idealize.ShloMosaic.TcCoe Cert.Spec Cert.RefSoftmax Cert.TopFour

/-- The condition on an array of logits: each of the four largest exceeds the next, and the largest is below infinity. -/
def condition (v : FVec Ideal S2x96x384x384 .f32) : IVec S2x384x384x4 1 :=
  let values : FVec Ideal S2x384x384x5 .f32 := (Host.topK S2x384x384x5 3 (FloatOps.cmpfTotal .gt)
    (transpose S2x384x384x96 [0, 2, 3, 1] v transposes_S2x96x384x384_S2x384x384x96_0_2_3_1) sliceFits_S2x384x384x96_S2x384x384x5).1
  andi (cmpf .ogt (extractStridedSlice S2x384x384x4 ![0, 0, 0, 0] values slices_S2x384x384x5_S2x384x384x4_0_0_0_0)
      (extractStridedSlice S2x384x384x4 ![0, 0, 0, 1] values slices_S2x384x384x5_S2x384x384x4_0_0_0_1))
    (broadcastInDim S2x384x384x4 ![0, 1, 2, 3] bcast_S2x384x384x1_S2x384x384x4_0_1_2_3
      (cmpf .olt (extractStridedSlice S2x384x384x1 ![0, 0, 0, 0] values slices_S2x384x384x5_S2x384x384x1_0_0_0_0)
        (broadcastInDim S2x384x384x1 ![] bcast_S_S2x384x384x1 (constant S_ .f32 0x7F800000#32))))

variable (x0 : S2x96x384x384.Idx → EReal) (x1 : S64x96x3x3.Idx → EReal) (x2 : S64.Idx → EReal) (x3 : S64x64x3x3.Idx → EReal)
  (x4 : S64.Idx → EReal) (x5 : S96x64x1x1.Idx → EReal) (x6 : S96.Idx → EReal)

/-- The precondition is that condition on the reference's logits. -/
theorem fn_eq : fn (F := Ideal) x0 x1 x2 x3 x4 x5 x6 = condition (Cert.ReferenceIdeal.Read.val_main_v123 (F := Ideal) x0 x1 x2 x3 x4 x5 x6) := rfl

/-- The word of infinity. -/
theorem ofBits_top : Ideal.ofBits .f32 0x7F800000#32 = (⊤ : EReal) := by simp [Ideal.ofBits, Ideal.ieee]

/-- A bit that is the decision of a proposition, read as one. -/
theorem of_bit {p q : Prop} [Decidable p] [Decidable q] (h : IntOp.andi (BitVec.ofBool (decide p)) (BitVec.ofBool (decide q)) = 1#1) : p ∧ q := by
  by_cases hp : p <;> by_cases hq : q <;> simp [hp, hq, IntOp.andi] at h ⊢

/-- The condition at a pixel and a place. -/
theorem condition_at (v : FVec Ideal S2x96x384x384 .f32) (h : condition v = fun _ => 1#1) (b : Fin 2) (y x : Fin 384) (L : Fin 96 → EReal)
    (hL : ∀ d, v (ValueIdx.ix4 b d y x) = L d) (i : Fin 4) : L (Cert.Order.order L ⟨i.val + 1, by omega⟩) < L (Cert.Order.order L ⟨i.val, by omega⟩) ∧ L (Cert.Order.order L 0) < ⊤ := by
  have hx : (fun d => transpose S2x384x384x96 [0, 2, 3, 1] v transposes_S2x96x384x384_S2x384x384x96_0_2_3_1 (ValueIdx.ix4 b y x d)) = L :=
    funext fun d => (transpose_apply _ _ _ _ (ValueIdx.ix4 b d y x) (fun a => by
      match a with
      | ⟨0, _⟩ => rfl
      | ⟨1, _⟩ => rfl
      | ⟨2, _⟩ => rfl
      | ⟨3, _⟩ => rfl)).trans (hL d)
  have hv : ∀ k : Fin 5, (Host.topK S2x384x384x5 3 (FloatOps.cmpfTotal .gt)
      (transpose S2x384x384x96 [0, 2, 3, 1] v transposes_S2x96x384x384_S2x384x384x96_0_2_3_1) sliceFits_S2x384x384x96_S2x384x384x5).1
        (ValueIdx.ix4 b y x k) = L (Cert.Order.order L (k.castLE (by decide))) := fun k => by
    refine (Cert.Order.topK_value (by decide) _ _ b y x k).trans ?_
    rw [hx]
    exact congrFun hx _
  have h' := congrFun h (ValueIdx.ix4 b y x i)
  unfold condition at h'
  dsimp only at h'
  generalize (Host.topK S2x384x384x5 3 (FloatOps.cmpfTotal .gt)
      (transpose S2x384x384x96 [0, 2, 3, 1] v transposes_S2x96x384x384_S2x384x384x96_0_2_3_1) sliceFits_S2x384x384x96_S2x384x384x5).1 = values at h' hv
  have e0 : extractStridedSlice S2x384x384x4 ![0, 0, 0, 0] values slices_S2x384x384x5_S2x384x384x4_0_0_0_0 (ValueIdx.ix4 b y x i)
      = L (Cert.Order.order L ⟨i.val, by omega⟩) :=
    (extractStridedSlice_apply _ _ _ _ (ValueIdx.ix4 b y x ⟨i.val, by omega⟩) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm)).trans (hv _)
  have e1 : extractStridedSlice S2x384x384x4 ![0, 0, 0, 1] values slices_S2x384x384x5_S2x384x384x4_0_0_0_1 (ValueIdx.ix4 b y x i)
      = L (Cert.Order.order L ⟨i.val + 1, by omega⟩) :=
    (extractStridedSlice_apply _ _ _ _ (ValueIdx.ix4 b y x ⟨i.val + 1, by omega⟩) (fun a => by
      match a with
      | ⟨0, _⟩ => exact (Nat.zero_add _).symm
      | ⟨1, _⟩ => exact (Nat.zero_add _).symm
      | ⟨2, _⟩ => exact (Nat.zero_add _).symm
      | ⟨3, _⟩ => exact Nat.add_comm _ _)).trans (hv _)
  have e2 : extractStridedSlice S2x384x384x1 ![0, 0, 0, 0] values slices_S2x384x384x5_S2x384x384x1_0_0_0_0 (ValueIdx.ix4 b y x 0)
      = L (Cert.Order.order L 0) :=
    (extractStridedSlice_apply _ _ _ _ (ValueIdx.ix4 b y x 0) (fun a => by
      match a with
      | ⟨0, _⟩ => exact (Nat.zero_add _).symm
      | ⟨1, _⟩ => exact (Nat.zero_add _).symm
      | ⟨2, _⟩ => exact (Nat.zero_add _).symm
      | ⟨3, _⟩ => rfl)).trans (hv 0)
  have e3 : broadcastInDim S2x384x384x1 ![] bcast_S_S2x384x384x1 (constant (F := Ideal) S_ .f32 0x7F800000#32) (ValueIdx.ix4 b y x 0) = (⊤ : EReal) :=
    ofBits_top
  generalize broadcastInDim S2x384x384x1 ![] bcast_S_S2x384x384x1 (constant (F := Ideal) S_ .f32 0x7F800000#32) = inf at h' e3
  generalize extractStridedSlice S2x384x384x4 ![0, 0, 0, 0] values slices_S2x384x384x5_S2x384x384x4_0_0_0_0 = p at h' e0
  generalize extractStridedSlice S2x384x384x4 ![0, 0, 0, 1] values slices_S2x384x384x5_S2x384x384x4_0_0_0_1 = q at h' e1
  generalize extractStridedSlice S2x384x384x1 ![0, 0, 0, 0] values slices_S2x384x384x5_S2x384x384x1_0_0_0_0 = r at h' e2
  have e4 : broadcastInDim S2x384x384x4 ![0, 1, 2, 3] bcast_S2x384x384x1_S2x384x384x4_0_1_2_3 (cmpf .olt r inf) (ValueIdx.ix4 b y x i)
      = cmpf .olt r inf (ValueIdx.ix4 b y x 0) := broadcastInDim_apply _ _ _ _ _ (fun a => by
    match a with
    | ⟨0, _⟩ => rfl
    | ⟨1, _⟩ => rfl
    | ⟨2, _⟩ => rfl
    | ⟨3, _⟩ => rfl)
  have h'' : IntOp.andi (BitVec.ofBool (decide (q (ValueIdx.ix4 b y x i) < p (ValueIdx.ix4 b y x i))))
      (BitVec.ofBool (decide (r (ValueIdx.ix4 b y x 0) < inf (ValueIdx.ix4 b y x 0)))) = 1#1 := (congrArg (IntOp.andi _) e4.symm).trans h'
  rw [e0, e1, e2, e3] at h''
  exact of_bit h''

/-- Under the precondition the order of a pixel's logits has every property that picking the four largest needs. -/
theorem sorted (h : fn (F := Ideal) x0 x1 x2 x3 x4 x5 x6 = fun _ => 1#1) (b : Fin 2) (y x : Fin 384) :
    Sorted (lg x0 x1 x2 x3 x4 x5 x6 b y x) (Cert.Order.order (lg x0 x1 x2 x3 x4 x5 x6 b y x)) := by
  rw [fn_eq] at h
  have key := condition_at _ h b y x (lg x0 x1 x2 x3 x4 x5 x6 b y x) (fun d => RefLogits.logits x0 x1 x2 x3 x4 x5 x6 b d y x)
  exact Cert.Order.sorted_of (fun i hi => (key ⟨i.val, hi⟩).1) (key 0).2

end Cert.Separate

end
-- ==== Proof.Algebraic.lean ====
/-
  The kernel and the reference compute the same array: the reference's result at an index, and the two runs side by side.
-/
module

public import proofs.«01_k».proof.Defs
public import proofs.«01_k».proof.Proof.KernelBlock
public import proofs.«01_k».proof.Proof.RefMask
public import proofs.«01_k».proof.Proof.Separate
public import proofs.«01_k».proof.Proof.Gen.ReferenceIdeal.Run

@[expose] public section

set_option maxRecDepth 16384

noncomputable section

namespace Cert.Algebraic

open Idealize.ShloMosaic Idealize.ShloMosaic.TcCoe Idealize.SL.Sem Cert.Spec Cert.RefSoftmax

section Reference

open Cert.ReferenceIdeal Cert.ReferenceIdeal.Gen Cert.ReferenceIdeal.Read

variable (x0 : S2x96x384x384.Idx → EReal) (x1 : S64x96x3x3.Idx → EReal) (x2 : S64.Idx → EReal) (x3 : S64x64x3x3.Idx → EReal)
  (x4 : S64.Idx → EReal) (x5 : S96x64x1x1.Idx → EReal) (x6 : S96.Idx → EReal)

/-- Under the precondition the reference's result at a pixel is the softmax picked at the pixel's four largest logits. -/
theorem reference_at (h : Cert.Pre_top_five_separate.fn (F := Ideal) x0 x1 x2 x3 x4 x5 x6 = fun _ => 1#1) (b : Fin 2) (d : Fin 96) (y x : Fin 384) :
    val_main_v174 (F := Ideal) x0 x1 x2 x3 x4 x5 x6 (ValueIdx.ix4 b d y x) = pick (lg x0 x1 x2 x3 x4 x5 x6 b y x) d := by
  have e : idx_main_v174 (ValueIdx.ix4 b d y x) = ValueIdx.ix4 b y x d := funext fun a => by
    match a with
    | ⟨0, _⟩ => rfl
    | ⟨1, _⟩ => rfl
    | ⟨2, _⟩ => rfl
    | ⟨3, _⟩ => rfl
  have s := Cert.Separate.sorted x0 x1 x2 x3 x4 x5 x6 h b y x
  have o : Cert.RefMask.ord x0 x1 x2 x3 x4 x5 x6 b y x = Cert.Order.order (lg x0 x1 x2 x3 x4 x5 x6 b y x) := Cert.Order.order_congr fun c d => s.softmax_lt c d
  rw [val_main_v174_apply, e, val_main_v173_apply, softmax_last, Cert.RefMask.mask_at, o, s.pick_eq d]
  by_cases hd : ∃ i : Fin 96, i.val < 4 ∧ Cert.Order.order (lg x0 x1 x2 x3 x4 x5 x6 b y x) i = d
  · rw [if_pos hd, if_pos hd]
    rfl
  · rw [if_neg hd, if_neg hd]
    rfl

/-- Under the precondition the reference's result is the specification's. -/
theorem reference_result (h : Cert.Pre_top_five_separate.fn (F := Ideal) x0 x1 x2 x3 x4 x5 x6 = fun _ => 1#1) :
    val_main_v174 (F := Ideal) x0 x1 x2 x3 x4 x5 x6 = result (RefLogits.args x0 x1 x2 x3 x4 x5 x6) := by
  funext j
  have hj : j = ValueIdx.ix4 (j 0) (j 1) (j 2) (j 3) := funext fun a => by
    match a with
    | ⟨0, _⟩ => rfl
    | ⟨1, _⟩ => rfl
    | ⟨2, _⟩ => rfl
    | ⟨3, _⟩ => rfl
  exact (congrArg _ hj).trans (reference_at x0 x1 x2 x3 x4 x5 x6 h (j 0) (j 1) (j 2) (j 3))

/-- The same of arrays that agree with the ones the precondition is about. -/
theorem reference_agree {y0 : S2x96x384x384.Idx → EReal} {y1 : S64x96x3x3.Idx → EReal} {y2 : S64.Idx → EReal} {y3 : S64x64x3x3.Idx → EReal}
    {y4 : S64.Idx → EReal} {y5 : S96x64x1x1.Idx → EReal} {y6 : S96.Idx → EReal}
    (h : Cert.Pre_top_five_separate.fn (F := Ideal) x0 x1 x2 x3 x4 x5 x6 = fun _ => 1#1)
    (e0 : y0 = x0) (e1 : y1 = x1) (e2 : y2 = x2) (e3 : y3 = x3) (e4 : y4 = x4) (e5 : y5 = x5) (e6 : y6 = x6) :
    val_main_v174 (F := Ideal) y0 y1 y2 y3 y4 y5 y6 = result (RefLogits.args x0 x1 x2 x3 x4 x5 x6) := by
  subst e0 e1 e2 e3 e4 e5 e6
  exact reference_result _ _ _ _ _ _ _ h

end Reference

/-- From memories that agree on the arguments, under the precondition, the kernel and the reference end with the same result. -/
theorem algebraic : Cert.algebraic_KernelIdeal_ReferenceIdeal_pre_top_five_separate := by
  intro m g m' g' hpre hagree
  refine ⟨fun c => result (KernelBlock.args m c), ?_, ?_⟩
  · exact (θ_run Cert.KernelIdeal.defs _ _).mono (fun r h c => ⟨(h c).1.trans (KernelBlock.final m c), (h c).2⟩) (Cert.KernelIdeal.Value.run_blocks m g)
  · refine (θ_run Cert.ReferenceIdeal.defs _ _).mono (fun r h c => ⟨((h c).1.trans (Cert.ReferenceIdeal.Read.val_main_v174_eq _)).trans ?_, (h c).2⟩) (Cert.ReferenceIdeal.Value.run m' g')
    obtain ⟨a0, a1, a2, a3, a4, a5, a6⟩ := hagree c
    exact reference_agree _ _ _ _ _ _ _ (hpre c) a0 a1 a2 a3 a4 a5 a6

end Cert.Algebraic

end
-- ==== Proof.lean ====
/-
  The certificate's claim, assembled from the modules under Proof/.
-/
module

public import proofs.«01_k».proof.Defs
public import proofs.«01_k».proof.Proof.Frames
public import proofs.«01_k».proof.Proof.Algebraic
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_top_five_separate
public import Idealize.ShloMosaic.Adequacy
public import Idealize.ShloMosaic.Init

@[expose] public section

noncomputable section

namespace Cert.Proof

open Idealize.ShloMosaic Idealize.SL.Sem

/-- The five claims: the three programs run and keep their arguments, the idealized kernel is the kernel's own program, and under the
    precondition the idealized kernel and the reference end with the same result. -/
theorem claim : Cert.Claim := ⟨Cert.Kernel.Gen.facts, Cert.KernelIdeal.Gen.facts, Cert.ReferenceIdeal.Gen.facts, Cert.Pre_top_five_separate.Gen.facts,
  Frames.frame_kernel, Frames.frame_kernelIdeal, fun m ρ _ => Frames.frame_kernelIdeal m ρ trivial,
  Frames.frame_referenceIdeal, fun m ρ _ => Frames.frame_referenceIdeal m ρ trivial, Frames.preserves, Cert.Algebraic.algebraic⟩

end Cert.Proof

end
